-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_FoxGates (m : (ℓ : Loc Cert.FoxGates.nD Cert.FoxGates.τ Cert.FoxGates.sig) → Buf (Elt Bits) ℓ) : Prop :=
  True

def Pre_FoxGatesIdeal (m : (ℓ : Loc Cert.FoxGatesIdeal.nD Cert.FoxGatesIdeal.τ Cert.FoxGatesIdeal.sig) → Buf (Elt Ideal) ℓ) : Prop :=
  True

def Pre_FoxGatesRefIdeal (m : (ℓ : Loc Cert.FoxGatesRefIdeal.nD Cert.FoxGatesRefIdeal.τ Cert.FoxGatesRefIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesRefIdeal (m : (ℓ : Loc Cert.GdnGatesRefIdeal.nD Cert.GdnGatesRefIdeal.τ Cert.GdnGatesRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_FoxGates [hFoxGates : Cert.FoxGates.Facts] : Prop :=
  ∀ (m : (ℓ : Loc Cert.FoxGates.nD Cert.FoxGates.τ Cert.FoxGates.sig) → Buf (Elt Bits) ℓ) (g : Dev Cert.FoxGates.nD → PrngReg), Pre_FoxGates m →
    θ_run (Cert.FoxGates.defs (F := Bits)) (onTc (τ := Cert.FoxGates.τ) (Cert.FoxGates.main (F := Bits))) ⟨m, fun _ => 0, g⟩ (fun r => (∀ c : Dev Cert.FoxGates.nD,
      r.2.mem ((c.tc : Thread Cert.FoxGates.nD Cert.FoxGates.τ).loc Cert.FoxGates.main_arg0) = m ((c.tc : Thread Cert.FoxGates.nD Cert.FoxGates.τ).loc Cert.FoxGates.main_arg0)
      ∧ r.2.mem ((c.tc : Thread Cert.FoxGates.nD Cert.FoxGates.τ).loc Cert.FoxGates.main_arg1) = m ((c.tc : Thread Cert.FoxGates.nD Cert.FoxGates.τ).loc Cert.FoxGates.main_arg1)
      ∧ r.2.mem ((c.tc : Thread Cert.FoxGates.nD Cert.FoxGates.τ).loc Cert.FoxGates.main_arg2) = m ((c.tc : Thread Cert.FoxGates.nD Cert.FoxGates.τ).loc Cert.FoxGates.main_arg2))
      ∧ r.2.sem = fun _ => 0)

def quiescent_FoxGatesIdeal [hFoxGatesIdeal : Cert.FoxGatesIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg), Pre_FoxGatesIdeal m →
    θ_run (Cert.FoxGatesIdeal.defs (F := Ideal)) (onTc (τ := Cert.FoxGatesIdeal.τ) (Cert.FoxGatesIdeal.main (F := Ideal))) ⟨m, fun _ => 0, g⟩ (fun r => (∀ c : Dev Cert.FoxGatesIdeal.nD,
      r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
      ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1)
      ∧ r.2.mem ((c.tc : Thread Cert.FoxGatesIdeal.nD Cert.FoxGatesIdeal.τ).loc Cert.FoxGatesIdeal.main_arg2) = m ((c.tc : Thread Cert.FoxGatesIdeal.nD Cert.FoxGatesIdeal.τ).loc Cert.FoxGatesIdeal.main_arg2))
      ∧ r.2.sem = fun _ => 0)

def quiescent_FoxGatesRefIdeal [hFoxGatesRefIdeal : Cert.FoxGatesRefIdeal.Facts] : Prop :=
  ∀ (m : (ℓ : Loc Cert.FoxGatesRefIdeal.nD Cert.FoxGatesRefIdeal.τ Cert.FoxGatesRefIdeal.sig) → Buf (Elt Ideal) ℓ) (g : Dev Cert.FoxGatesRefIdeal.nD → PrngReg), Pre_FoxGatesRefIdeal m →
    θ_run (Cert.FoxGatesRefIdeal.defs (F := Ideal)) (onTc (τ := Cert.FoxGatesRefIdeal.τ) (Cert.FoxGatesRefIdeal.main (F := Ideal))) ⟨m, fun _ => 0, g⟩ (fun r => (∀ c : Dev Cert.FoxGatesRefIdeal.nD,
      r.2.mem ((c.tc : Thread Cert.FoxGatesRefIdeal.nD Cert.FoxGatesRefIdeal.τ).loc Cert.FoxGatesRefIdeal.main_arg0) = m ((c.tc : Thread Cert.FoxGatesRefIdeal.nD Cert.FoxGatesRefIdeal.τ).loc Cert.FoxGatesRefIdeal.main_arg0)
      ∧ r.2.mem ((c.tc : Thread Cert.FoxGatesRefIdeal.nD Cert.FoxGatesRefIdeal.τ).loc Cert.FoxGatesRefIdeal.main_arg1) = m ((c.tc : Thread Cert.FoxGatesRefIdeal.nD Cert.FoxGatesRefIdeal.τ).loc Cert.FoxGatesRefIdeal.main_arg1)
      ∧ r.2.mem ((c.tc : Thread Cert.FoxGatesRefIdeal.nD Cert.FoxGatesRefIdeal.τ).loc Cert.FoxGatesRefIdeal.main_arg2) = m ((c.tc : Thread Cert.FoxGatesRefIdeal.nD Cert.FoxGatesRefIdeal.τ).loc Cert.FoxGatesRefIdeal.main_arg2))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1)
      ∧ r.2.mem ((c.tc : Thread Cert.GdnGates.nD Cert.GdnGates.τ).loc Cert.GdnGates.main_arg2) = m ((c.tc : Thread Cert.GdnGates.nD Cert.GdnGates.τ).loc Cert.GdnGates.main_arg2)
      ∧ r.2.mem ((c.tc : Thread Cert.GdnGates.nD Cert.GdnGates.τ).loc Cert.GdnGates.main_arg3) = m ((c.tc : Thread Cert.GdnGates.nD Cert.GdnGates.τ).loc Cert.GdnGates.main_arg3))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
      ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
      ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ r.2.sem = fun _ => 0)

def quiescent_GdnGatesRefIdeal [hGdnGatesRefIdeal : Cert.GdnGatesRefIdeal.Facts] : Prop :=
  ∀ (m : (ℓ : Loc Cert.GdnGatesRefIdeal.nD Cert.GdnGatesRefIdeal.τ Cert.GdnGatesRefIdeal.sig) → Buf (Elt Ideal) ℓ) (g : Dev Cert.GdnGatesRefIdeal.nD → PrngReg), Pre_GdnGatesRefIdeal m →
    θ_run (Cert.GdnGatesRefIdeal.defs (F := Ideal)) (onTc (τ := Cert.GdnGatesRefIdeal.τ) (Cert.GdnGatesRefIdeal.main (F := Ideal))) ⟨m, fun _ => 0, g⟩ (fun r => (∀ c : Dev Cert.GdnGatesRefIdeal.nD,
      r.2.mem ((c.tc : Thread Cert.GdnGatesRefIdeal.nD Cert.GdnGatesRefIdeal.τ).loc Cert.GdnGatesRefIdeal.main_arg0) = m ((c.tc : Thread Cert.GdnGatesRefIdeal.nD Cert.GdnGatesRefIdeal.τ).loc Cert.GdnGatesRefIdeal.main_arg0)
      ∧ r.2.mem ((c.tc : Thread Cert.GdnGatesRefIdeal.nD Cert.GdnGatesRefIdeal.τ).loc Cert.GdnGatesRefIdeal.main_arg1) = m ((c.tc : Thread Cert.GdnGatesRefIdeal.nD Cert.GdnGatesRefIdeal.τ).loc Cert.GdnGatesRefIdeal.main_arg1)
      ∧ r.2.mem ((c.tc : Thread Cert.GdnGatesRefIdeal.nD Cert.GdnGatesRefIdeal.τ).loc Cert.GdnGatesRefIdeal.main_arg2) = m ((c.tc : Thread Cert.GdnGatesRefIdeal.nD Cert.GdnGatesRefIdeal.τ).loc Cert.GdnGatesRefIdeal.main_arg2)
      ∧ r.2.mem ((c.tc : Thread Cert.GdnGatesRefIdeal.nD Cert.GdnGatesRefIdeal.τ).loc Cert.GdnGatesRefIdeal.main_arg3) = m ((c.tc : Thread Cert.GdnGatesRefIdeal.nD Cert.GdnGatesRefIdeal.τ).loc Cert.GdnGatesRefIdeal.main_arg3))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v39) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v39) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v0)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v0) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v4) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v29) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_FoxGates_FoxGatesIdeal : Prop :=
  True

def algebraic_FoxGatesIdeal_FoxGatesRefIdeal [hFoxGatesIdeal : Cert.FoxGatesIdeal.Facts] [hFoxGatesRefIdeal : Cert.FoxGatesRefIdeal.Facts] : Prop :=
  ∀ (m : (ℓ : Loc Cert.FoxGatesIdeal.nD Cert.FoxGatesIdeal.τ Cert.FoxGatesIdeal.sig) → Buf (Elt Ideal) ℓ) (g : Dev Cert.FoxGatesIdeal.nD → PrngReg)
    (m' : (ℓ : Loc Cert.FoxGatesRefIdeal.nD Cert.FoxGatesRefIdeal.τ Cert.FoxGatesRefIdeal.sig) → Buf (Elt Ideal) ℓ) (g' : Dev Cert.FoxGatesRefIdeal.nD → PrngReg), Pre_FoxGatesIdeal m →
    (∀ c : Dev Cert.FoxGatesIdeal.nD,
      m' ((c.tc : Thread Cert.FoxGatesRefIdeal.nD Cert.FoxGatesRefIdeal.τ).loc Cert.FoxGatesRefIdeal.main_arg0) = m ((c.tc : Thread Cert.FoxGatesIdeal.nD Cert.FoxGatesIdeal.τ).loc Cert.FoxGatesIdeal.main_arg0)
      ∧ m' ((c.tc : Thread Cert.FoxGatesRefIdeal.nD Cert.FoxGatesRefIdeal.τ).loc Cert.FoxGatesRefIdeal.main_arg1) = m ((c.tc : Thread Cert.FoxGatesIdeal.nD Cert.FoxGatesIdeal.τ).loc Cert.FoxGatesIdeal.main_arg1)
      ∧ m' ((c.tc : Thread Cert.FoxGatesRefIdeal.nD Cert.FoxGatesRefIdeal.τ).loc Cert.FoxGatesRefIdeal.main_arg2) = m ((c.tc : Thread Cert.FoxGatesIdeal.nD Cert.FoxGatesIdeal.τ).loc Cert.FoxGatesIdeal.main_arg2)) →
    ∃ (v0 : (c : Dev Cert.FoxGatesIdeal.nD) → Buf (Elt Ideal) ((c.tc : Thread Cert.FoxGatesIdeal.nD Cert.FoxGatesIdeal.τ).loc Cert.FoxGatesIdeal.main_v4)),
      θ_run (Cert.FoxGatesIdeal.defs (F := Ideal)) (onTc (τ := Cert.FoxGatesIdeal.τ) (Cert.FoxGatesIdeal.main (F := Ideal))) ⟨m, fun _ => 0, g⟩ (fun r => ∀ c : Dev Cert.FoxGatesIdeal.nD,
          r.2.mem ((c.tc : Thread Cert.FoxGatesIdeal.nD Cert.FoxGatesIdeal.τ).loc Cert.FoxGatesIdeal.main_v4) = v0 c
          ∧ r.2.mem ((c.tc : Thread Cert.FoxGatesIdeal.nD Cert.FoxGatesIdeal.τ).loc Cert.FoxGatesIdeal.main_arg0) = m ((c.tc : Thread Cert.FoxGatesIdeal.nD Cert.FoxGatesIdeal.τ).loc Cert.FoxGatesIdeal.main_arg0)
          ∧ r.2.mem ((c.tc : Thread Cert.FoxGatesIdeal.nD Cert.FoxGatesIdeal.τ).loc Cert.FoxGatesIdeal.main_arg1) = m ((c.tc : Thread Cert.FoxGatesIdeal.nD Cert.FoxGatesIdeal.τ).loc Cert.FoxGatesIdeal.main_arg1)
          ∧ r.2.mem ((c.tc : Thread Cert.FoxGatesIdeal.nD Cert.FoxGatesIdeal.τ).loc Cert.FoxGatesIdeal.main_arg2) = m ((c.tc : Thread Cert.FoxGatesIdeal.nD Cert.FoxGatesIdeal.τ).loc Cert.FoxGatesIdeal.main_arg2))
      ∧ θ_run (Cert.FoxGatesRefIdeal.defs (F := Ideal)) (onTc (τ := Cert.FoxGatesRefIdeal.τ) (Cert.FoxGatesRefIdeal.main (F := Ideal))) ⟨m', fun _ => 0, g'⟩ (fun r => ∀ c : Dev Cert.FoxGatesRefIdeal.nD,
          r.2.mem ((c.tc : Thread Cert.FoxGatesRefIdeal.nD Cert.FoxGatesRefIdeal.τ).loc Cert.FoxGatesRefIdeal.main_v11) = v0 c
          ∧ r.2.mem ((c.tc : Thread Cert.FoxGatesRefIdeal.nD Cert.FoxGatesRefIdeal.τ).loc Cert.FoxGatesRefIdeal.main_arg0) = m' ((c.tc : Thread Cert.FoxGatesRefIdeal.nD Cert.FoxGatesRefIdeal.τ).loc Cert.FoxGatesRefIdeal.main_arg0)
          ∧ r.2.mem ((c.tc : Thread Cert.FoxGatesRefIdeal.nD Cert.FoxGatesRefIdeal.τ).loc Cert.FoxGatesRefIdeal.main_arg1) = m' ((c.tc : Thread Cert.FoxGatesRefIdeal.nD Cert.FoxGatesRefIdeal.τ).loc Cert.FoxGatesRefIdeal.main_arg1)
          ∧ r.2.mem ((c.tc : Thread Cert.FoxGatesRefIdeal.nD Cert.FoxGatesRefIdeal.τ).loc Cert.FoxGatesRefIdeal.main_arg2) = m' ((c.tc : Thread Cert.FoxGatesRefIdeal.nD Cert.FoxGatesRefIdeal.τ).loc Cert.FoxGatesRefIdeal.main_arg2))

def preserves_GdnGates_GdnGatesIdeal : Prop :=
  True

def algebraic_GdnGatesIdeal_GdnGatesRefIdeal [hGdnGatesIdeal : Cert.GdnGatesIdeal.Facts] [hGdnGatesRefIdeal : Cert.GdnGatesRefIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesRefIdeal.nD Cert.GdnGatesRefIdeal.τ Cert.GdnGatesRefIdeal.sig) → Buf (Elt Ideal) ℓ) (g' : Dev Cert.GdnGatesRefIdeal.nD → PrngReg), Pre_GdnGatesIdeal m →
    (∀ c : Dev Cert.GdnGatesIdeal.nD,
      m' ((c.tc : Thread Cert.GdnGatesRefIdeal.nD Cert.GdnGatesRefIdeal.τ).loc Cert.GdnGatesRefIdeal.main_arg0) = m ((c.tc : Thread Cert.GdnGatesIdeal.nD Cert.GdnGatesIdeal.τ).loc Cert.GdnGatesIdeal.main_arg0)
      ∧ m' ((c.tc : Thread Cert.GdnGatesRefIdeal.nD Cert.GdnGatesRefIdeal.τ).loc Cert.GdnGatesRefIdeal.main_arg1) = m ((c.tc : Thread Cert.GdnGatesIdeal.nD Cert.GdnGatesIdeal.τ).loc Cert.GdnGatesIdeal.main_arg1)
      ∧ m' ((c.tc : Thread Cert.GdnGatesRefIdeal.nD Cert.GdnGatesRefIdeal.τ).loc Cert.GdnGatesRefIdeal.main_arg2) = m ((c.tc : Thread Cert.GdnGatesIdeal.nD Cert.GdnGatesIdeal.τ).loc Cert.GdnGatesIdeal.main_arg2)
      ∧ m' ((c.tc : Thread Cert.GdnGatesRefIdeal.nD Cert.GdnGatesRefIdeal.τ).loc Cert.GdnGatesRefIdeal.main_arg3) = m ((c.tc : Thread Cert.GdnGatesIdeal.nD Cert.GdnGatesIdeal.τ).loc Cert.GdnGatesIdeal.main_arg3)) →
    ∃ (v0 : (c : Dev Cert.GdnGatesIdeal.nD) → Buf (Elt Ideal) ((c.tc : Thread Cert.GdnGatesIdeal.nD Cert.GdnGatesIdeal.τ).loc Cert.GdnGatesIdeal.main_v7_0)) (v1 : (c : Dev Cert.GdnGatesIdeal.nD) → Buf (Elt Ideal) ((c.tc : Thread Cert.GdnGatesIdeal.nD Cert.GdnGatesIdeal.τ).loc Cert.GdnGatesIdeal.main_v7_1)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v7_0) = v0 c
          ∧ r.2.mem ((c.tc : Thread Cert.GdnGatesIdeal.nD Cert.GdnGatesIdeal.τ).loc Cert.GdnGatesIdeal.main_v7_1) = v1 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
          ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
          ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ θ_run (Cert.GdnGatesRefIdeal.defs (F := Ideal)) (onTc (τ := Cert.GdnGatesRefIdeal.τ) (Cert.GdnGatesRefIdeal.main (F := Ideal))) ⟨m', fun _ => 0, g'⟩ (fun r => ∀ c : Dev Cert.GdnGatesRefIdeal.nD,
          r.2.mem ((c.tc : Thread Cert.GdnGatesRefIdeal.nD Cert.GdnGatesRefIdeal.τ).loc Cert.GdnGatesRefIdeal.main_v9) = v0 c
          ∧ r.2.mem ((c.tc : Thread Cert.GdnGatesRefIdeal.nD Cert.GdnGatesRefIdeal.τ).loc Cert.GdnGatesRefIdeal.main_v24) = v1 c
          ∧ r.2.mem ((c.tc : Thread Cert.GdnGatesRefIdeal.nD Cert.GdnGatesRefIdeal.τ).loc Cert.GdnGatesRefIdeal.main_arg0) = m' ((c.tc : Thread Cert.GdnGatesRefIdeal.nD Cert.GdnGatesRefIdeal.τ).loc Cert.GdnGatesRefIdeal.main_arg0)
          ∧ r.2.mem ((c.tc : Thread Cert.GdnGatesRefIdeal.nD Cert.GdnGatesRefIdeal.τ).loc Cert.GdnGatesRefIdeal.main_arg1) = m' ((c.tc : Thread Cert.GdnGatesRefIdeal.nD Cert.GdnGatesRefIdeal.τ).loc Cert.GdnGatesRefIdeal.main_arg1)
          ∧ r.2.mem ((c.tc : Thread Cert.GdnGatesRefIdeal.nD Cert.GdnGatesRefIdeal.τ).loc Cert.GdnGatesRefIdeal.main_arg2) = m' ((c.tc : Thread Cert.GdnGatesRefIdeal.nD Cert.GdnGatesRefIdeal.τ).loc Cert.GdnGatesRefIdeal.main_arg2)
          ∧ r.2.mem ((c.tc : Thread Cert.GdnGatesRefIdeal.nD Cert.GdnGatesRefIdeal.τ).loc Cert.GdnGatesRefIdeal.main_arg3) = m' ((c.tc : Thread Cert.GdnGatesRefIdeal.nD Cert.GdnGatesRefIdeal.τ).loc Cert.GdnGatesRefIdeal.main_arg3))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInproj : Cert.Inproj.Facts) (hInprojIdeal : Cert.InprojIdeal.Facts) (hInprojRefIdeal : Cert.InprojRefIdeal.Facts) (hMm : Cert.Mm.Facts) (hMmIdeal : Cert.MmIdeal.Facts) (hMmRefIdeal : Cert.MmRefIdeal.Facts) (hFinal : Cert.Final.Facts) (hFinalIdeal : Cert.FinalIdeal.Facts) (hFinalRefIdeal : Cert.FinalRefIdeal.Facts) (hNorm : Cert.Norm.Facts) (hNormIdeal : Cert.NormIdeal.Facts) (hNormRefIdeal : Cert.NormRefIdeal.Facts) (hMod : Cert.Mod.Facts) (hModIdeal : Cert.ModIdeal.Facts) (hModRefIdeal : Cert.ModRefIdeal.Facts) (hFoxGates : Cert.FoxGates.Facts) (hFoxGatesIdeal : Cert.FoxGatesIdeal.Facts) (hFoxGatesRefIdeal : Cert.FoxGatesRefIdeal.Facts) (hGdnGates : Cert.GdnGates.Facts) (hGdnGatesIdeal : Cert.GdnGatesIdeal.Facts) (hGdnGatesRefIdeal : Cert.GdnGatesRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mm (hMm := hMm)
    ∧ quiescent_MmIdeal (hMmIdeal := hMmIdeal)
    ∧ quiescent_MmRefIdeal (hMmRefIdeal := hMmRefIdeal)
    ∧ quiescent_Final (hFinal := hFinal)
    ∧ quiescent_FinalIdeal (hFinalIdeal := hFinalIdeal)
    ∧ quiescent_FinalRefIdeal (hFinalRefIdeal := hFinalRefIdeal)
    ∧ quiescent_Norm (hNorm := hNorm)
    ∧ quiescent_NormIdeal (hNormIdeal := hNormIdeal)
    ∧ quiescent_NormRefIdeal (hNormRefIdeal := hNormRefIdeal)
    ∧ quiescent_Mod (hMod := hMod)
    ∧ quiescent_ModIdeal (hModIdeal := hModIdeal)
    ∧ quiescent_ModRefIdeal (hModRefIdeal := hModRefIdeal)
    ∧ quiescent_FoxGates (hFoxGates := hFoxGates)
    ∧ quiescent_FoxGatesIdeal (hFoxGatesIdeal := hFoxGatesIdeal)
    ∧ quiescent_FoxGatesRefIdeal (hFoxGatesRefIdeal := hFoxGatesRefIdeal)
    ∧ quiescent_GdnGates (hGdnGates := hGdnGates)
    ∧ quiescent_GdnGatesIdeal (hGdnGatesIdeal := hGdnGatesIdeal)
    ∧ quiescent_GdnGatesRefIdeal (hGdnGatesRefIdeal := hGdnGatesRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Inproj_InprojIdeal
    ∧ algebraic_InprojIdeal_InprojRefIdeal (hInprojIdeal := hInprojIdeal) (hInprojRefIdeal := hInprojRefIdeal)
    ∧ preserves_Mm_MmIdeal
    ∧ algebraic_MmIdeal_MmRefIdeal (hMmIdeal := hMmIdeal) (hMmRefIdeal := hMmRefIdeal)
    ∧ preserves_Final_FinalIdeal
    ∧ algebraic_FinalIdeal_FinalRefIdeal (hFinalIdeal := hFinalIdeal) (hFinalRefIdeal := hFinalRefIdeal)
    ∧ preserves_Norm_NormIdeal
    ∧ algebraic_NormIdeal_NormRefIdeal (hNormIdeal := hNormIdeal) (hNormRefIdeal := hNormRefIdeal)
    ∧ preserves_Mod_ModIdeal
    ∧ algebraic_ModIdeal_ModRefIdeal (hModIdeal := hModIdeal) (hModRefIdeal := hModRefIdeal)
    ∧ preserves_FoxGates_FoxGatesIdeal
    ∧ algebraic_FoxGatesIdeal_FoxGatesRefIdeal (hFoxGatesIdeal := hFoxGatesIdeal) (hFoxGatesRefIdeal := hFoxGatesRefIdeal)
    ∧ preserves_GdnGates_GdnGatesIdeal
    ∧ algebraic_GdnGatesIdeal_GdnGatesRefIdeal (hGdnGatesIdeal := hGdnGatesIdeal) (hGdnGatesRefIdeal := hGdnGatesRefIdeal)
-- ==== Pre_finite.lean ====
abbrev S8192x16384 : Shape := ⟨2, ![8192, 16384]⟩
abbrev S8192x32 : Shape := ⟨2, ![8192, 32]⟩
abbrev S8192x8192 : Shape := ⟨2, ![8192, 8192]⟩
abbrev S_ : Shape := ⟨0, ![]⟩

class Facts : Prop where
  slices_S8192x16384_S8192x8192_0_0 : S8192x16384.Slices ![0, 0] S8192x8192
  bitsLt_bf16_f32 : FTy.bits .bf16 < FTy.bits .f32
  bcast_S_S8192x8192 : S_.BroadcastsInDim S8192x8192 (![] : Fin 0 → Fin S8192x8192.rank)
  bcast_S_S8192x32 : S_.BroadcastsInDim S8192x32 (![] : Fin 0 → Fin S8192x32.rank)

variable [Facts]

def fn {F : FTy → Type} [FloatOps F] (main_arg0 : FVec F S8192x16384 .bf16) (main_arg1 : FVec F S8192x32 .f32) : IVec S8192x8192 1 × IVec S8192x32 1 :=
  let main_v0 : FVec F S8192x8192 .bf16 := (extractStridedSlice S8192x8192 ![0, 0] · slices_S8192x16384_S8192x8192_0_0) main_arg0
  let main_v1 : FVec F S8192x8192 .f32 := (extf .f32 · bitsLt_bf16_f32) main_v0
  let main_v2 : FVec F S8192x8192 .f32 := Host.absf main_v1
  let main_cst : FVec F S_ .f32 := constant S_ .f32 0x7F800000#32
  let main_v3 : FVec F S8192x8192 .f32 := broadcastInDim S8192x8192 ![] bcast_S_S8192x8192 main_cst
  let main_v4 : IVec S8192x8192 1 := cmpf .olt main_v2 main_v3
  let main_v5 : FVec F S8192x32 .f32 := Host.absf main_arg1
  let main_cst_0 : FVec F S_ .f32 := constant S_ .f32 0x7F800000#32
  let main_v6 : FVec F S8192x32 .f32 := broadcastInDim S8192x32 ![] bcast_S_S8192x32 main_cst_0
  let main_v7 : IVec S8192x32 1 := cmpf .olt main_v5 main_v6
  (main_v4, main_v7)
-- ==== Attn.lean ====
abbrev S8192x16384 : Shape := ⟨2, ![8192, 16384]⟩
abbrev S8192x32 : Shape := ⟨2, ![8192, 32]⟩
abbrev S2x4096x32 : Shape := ⟨3, ![2, 4096, 32]⟩
abbrev S2x32x4096 : Shape := ⟨3, ![2, 32, 4096]⟩
abbrev S2x32x8x1x512 : Shape := ⟨5, ![2, 32, 8, 1, 512]⟩
abbrev S8192x4096 : Shape := ⟨2, ![8192, 4096]⟩
abbrev S4096x128 : Shape := ⟨2, ![4096, 128]⟩
abbrev S4096x32 : Shape := ⟨2, ![4096, 32]⟩
abbrev S1x1x8x1x512 : Shape := ⟨5, ![1, 1, 8, 1, 512]⟩
abbrev S1x32 : Shape := ⟨2, ![1, 32]⟩
abbrev S512x512 : Shape := ⟨2, ![512, 512]⟩
abbrev S512x128 : Shape := ⟨2, ![512, 128]⟩
abbrev S512x32 : Shape := ⟨2, ![512, 32]⟩
abbrev S512 : Shape := ⟨1, ![512]⟩
abbrev S512x1 : Shape := ⟨2, ![512, 1]⟩
abbrev S1x1x1x1x512 : Shape := ⟨5, ![1, 1, 1, 1, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x16384, .bf16⟩
  | .hbm, ⟨1, _⟩ => ⟨S8192x32, .f32⟩
  | .hbm, ⟨2, _⟩ => ⟨S2x4096x32, .f32⟩
  | .hbm, ⟨3, _⟩ => ⟨S2x32x4096, .f32⟩
  | .hbm, ⟨4, _⟩ => ⟨S2x32x8x1x512, .f32⟩
  | .hbm, ⟨5, _⟩ => ⟨S8192x4096, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x32, .f32⟩
  | .local _ .vmem, ⟨9, _⟩ => ⟨S4096x32, .f32⟩
  | .local _ .vmem, ⟨10, _⟩ => ⟨S1x1x8x1x512, .f32⟩
  | .local _ .vmem, ⟨11, _⟩ => ⟨S1x1x8x1x512, .f32⟩
  | .local _ .vmem, ⟨12, _⟩ => ⟨S4096x128, .bf16⟩
  | .local _ .vmem, ⟨13, _⟩ => ⟨S4096x128, .bf16⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v10 : BitVec 32 := Scalar.muli arg9 c512_i32
  v10
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v10 : BitVec 32 := Scalar.muli arg9 c512_i32
  let v11 : BitVec 32 := v10
  let v12 : Index := Scalar.indexCast v11
  let c0 : Index := 0#32
  ![v12.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v10 : BitVec 32 := Scalar.muli arg9 c512_i32
  let v11 : BitVec 32 := v10
  let v14 : Index := Scalar.indexCast v11
  let c0_2 : Index := 0#32
  ![v14.toNat, 0]
@[reducible] def k0_t2_loop (k0_t1 : Fin k0_t1_loop.trips) : Scf.Loop 32 :=
  let c0_i32_7 : BitVec 32 := 0#32
  let c0_i32 : BitVec 32 := 0#32
  let c1_i32 : BitVec 32 := 1#32
  let arg9 : BitVec 32 := Scf.iv c0_i32 c1_i32 k0_t1
  let v23 : BitVec 32 := Scalar.subi arg9 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_9 : BitVec 32 := 1#32
  ⟨c0_i32_7, v27, c1_i32_9⟩
def k0_mult2 (k0_t1 : Fin k0_t1_loop.trips) (k0_t2 : Fin (k0_t2_loop k0_t1).trips) : BitVec 32 :=
  let c0_i32_7 : BitVec 32 := 0#32
  let c1_i32_9 : BitVec 32 := 1#32
  let arg10 : BitVec 32 := Scf.iv c0_i32_7 c1_i32_9 k0_t2
  let c512_i32_28 : BitVec 32 := 512#32
  let v79 : BitVec 32 := Scalar.muli arg10 c512_i32_28
  v79
def k0_off3 (k0_t1 : Fin k0_t1_loop.trips) (k0_t2 : Fin (k0_t2_loop k0_t1).trips) : Fin 2 → Nat :=
  let c0_i32_7 : BitVec 32 := 0#32
  let c1_i32_9 : BitVec 32 := 1#32
  let arg10 : BitVec 32 := Scf.iv c0_i32_7 c1_i32_9 k0_t2
  let c512_i32_28 : BitVec 32 := 512#32
  let v79 : BitVec 32 := Scalar.muli arg10 c512_i32_28
  let v80 : BitVec 32 := v79
  let v81 : Index := Scalar.indexCast v80
  let c0_29 : Index := 0#32
  ![v81.toNat, 0]
def k0_off4 (k0_t1 : Fin k0_t1_loop.trips) (k0_t2 : Fin (k0_t2_loop k0_t1).trips) : Fin 5 → Nat :=
  let c0_32 : Index := 0#32
  let c0_33 : Index := 0#32
  let c0_i32_7 : BitVec 32 := 0#32
  let c1_i32_9 : BitVec 32 := 1#32
  let arg10 : BitVec 32 := Scf.iv c0_i32_7 c1_i32_9 k0_t2
  let v86 : Index := Scalar.indexCast arg10
  let c0_34 : Index := 0#32
  let c0_35 : Index := 0#32
  ![0, 0, v86.toNat, 0, 0]
@[reducible] def k0_t3_loop (k0_t1 : Fin k0_t1_loop.trips) : Scf.Loop 32 :=
  let c0_i32_7 : BitVec 32 := 0#32
  let c0_i32 : BitVec 32 := 0#32
  let c1_i32 : BitVec 32 := 1#32
  let arg9 : BitVec 32 := Scf.iv c0_i32 c1_i32 k0_t1
  let v23 : BitVec 32 := Scalar.subi arg9 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let v24 : BitVec 32 := Scalar.addi c0_i32_7 v23
  let c1_i32_10 : BitVec 32 := 1#32
  ⟨v27, v24, c1_i32_10⟩
def k0_mult3 (k0_t1 : Fin k0_t1_loop.trips) (k0_t3 : Fin (k0_t3_loop k0_t1).trips) : BitVec 32 :=
  let c0_i32_7 : BitVec 32 := 0#32
  let c0_i32 : BitVec 32 := 0#32
  let c1_i32 : BitVec 32 := 1#32
  let arg9 : BitVec 32 := Scf.iv c0_i32 c1_i32 k0_t1
  let v23 : BitVec 32 := Scalar.subi arg9 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg10 : BitVec 32 := Scf.iv v27 c1_i32_10 k0_t3
  let c512_i32_28 : BitVec 32 := 512#32
  let v79 : BitVec 32 := Scalar.muli arg10 c512_i32_28
  v79
def k0_off5 (k0_t1 : Fin k0_t1_loop.trips) (k0_t3 : Fin (k0_t3_loop k0_t1).trips) : Fin 2 → Nat :=
  let c0_i32_7 : BitVec 32 := 0#32
  let c0_i32 : BitVec 32 := 0#32
  let c1_i32 : BitVec 32 := 1#32
  let arg9 : BitVec 32 := Scf.iv c0_i32 c1_i32 k0_t1
  let v23 : BitVec 32 := Scalar.subi arg9 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg10 : BitVec 32 := Scf.iv v27 c1_i32_10 k0_t3
  let c512_i32_28 : BitVec 32 := 512#32
  let v79 : BitVec 32 := Scalar.muli arg10 c512_i32_28
  let v80 : BitVec 32 := v79
  let v81 : Index := Scalar.indexCast v80
  let c0_29 : Index := 0#32
  ![v81.toNat, 0]
def k0_off6 (k0_t1 : Fin k0_t1_loop.trips) (k0_t3 : Fin (k0_t3_loop k0_t1).trips) : Fin 5 → Nat :=
  let c0_32 : Index := 0#32
  let c0_33 : Index := 0#32
  let c0_i32_7 : BitVec 32 := 0#32
  let c0_i32 : BitVec 32 := 0#32
  let c1_i32 : BitVec 32 := 1#32
  let arg9 : BitVec 32 := Scf.iv c0_i32 c1_i32 k0_t1
  let v23 : BitVec 32 := Scalar.subi arg9 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg10 : BitVec 32 := Scf.iv v27 c1_i32_10 k0_t3
  let v86 : Index := Scalar.indexCast arg10
  let c0_34 : Index := 0#32
  let c0_35 : Index := 0#32
  ![0, 0, v86.toNat, 0, 0]
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32_11 : BitVec 32 := 512#32
  let v30 : BitVec 32 := Scalar.muli arg9 c512_i32_11
  v30
def k0_off7 (k0_t1 : Fin k0_t1_loop.trips) : Fin 5 → Nat :=
  let c0_15 : Index := 0#32
  let c0_16 : Index := 0#32
  let c0_i32 : BitVec 32 := 0#32
  let c1_i32 : BitVec 32 := 1#32
  let arg9 : BitVec 32 := Scf.iv c0_i32 c1_i32 k0_t1
  let v37 : Index := Scalar.indexCast arg9
  let c0_17 : Index := 0#32
  let c0_18 : Index := 0#32
  ![0, 0, v37.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8192x16384 : Shape := ⟨2, ![8192, 16384]⟩
abbrev S8192x32 : Shape := ⟨2, ![8192, 32]⟩
abbrev S8192x4096 : Shape := ⟨2, ![8192, 4096]⟩
abbrev S2x4096x32x128 : Shape := ⟨4, ![2, 4096, 32, 128]⟩
abbrev S2x32x4096x128 : Shape := ⟨4, ![2, 32, 4096, 128]⟩
abbrev S2x4096x4096 : Shape := ⟨3, ![2, 4096, 4096]⟩
abbrev S2x4096x32 : Shape := ⟨3, ![2, 4096, 32]⟩
abbrev S2x32x4096 : Shape := ⟨3, ![2, 32, 4096]⟩
abbrev S4096 : Shape := ⟨1, ![4096]⟩
abbrev S2x32x4096x4096 : Shape := ⟨4, ![2, 32, 4096, 4096]⟩
abbrev S2x32x4096x1 : Shape := ⟨4, ![2, 32, 4096, 1]⟩
abbrev S2x32x1x4096 : Shape := ⟨4, ![2, 32, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S8192x32, .f32⟩
  | .hbm, ⟨2, _⟩ => ⟨S8192x4096, .bf16⟩
  | .hbm, ⟨3, _⟩ => ⟨S8192x4096, .f32⟩
  | .hbm, ⟨4, _⟩ => ⟨S2x4096x32x128, .f32⟩
  | .hbm, ⟨5, _⟩ => ⟨S2x32x4096x128, .f32⟩
  | .hbm, ⟨6, _⟩ => ⟨S8192x4096, .bf16⟩
  | .hbm, ⟨7, _⟩ => ⟨S8192x4096, .f32⟩
  | .hbm, ⟨8, _⟩ => ⟨S2x4096x32x128, .f32⟩
  | .hbm, ⟨9, _⟩ => ⟨S2x32x4096x128, .f32⟩
  | .hbm, ⟨10, _⟩ => ⟨S8192x4096, .bf16⟩
  | .hbm, ⟨11, _⟩ => ⟨S8192x4096, .f32⟩
  | .hbm, ⟨12, _⟩ => ⟨S2x4096x32x128, .f32⟩
  | .hbm, ⟨13, _⟩ => ⟨S2x32x4096x128, .f32⟩
  | .hbm, ⟨14, _⟩ => ⟨S8192x4096, .bf16⟩
  | .hbm, ⟨15, _⟩ => ⟨S8192x4096, .f32⟩
  | .hbm, ⟨16, _⟩ => ⟨S2x4096x4096, .f32⟩
  | .hbm, ⟨17, _⟩ => ⟨S2x4096x32, .f32⟩
  | .hbm, ⟨18, _⟩ => ⟨S2x32x4096, .f32⟩
  | .hbm, ⟨19, _⟩ => ⟨S4096, .i32⟩
  | .hbm, ⟨20, _⟩ => ⟨S2x32x4096x4096, .f32⟩
  | .hbm, ⟨21, _⟩ => ⟨S2x32x4096x1, .f32⟩
  | .hbm, ⟨22, _⟩ => ⟨S2x32x4096x4096, .f32⟩
  | .hbm, ⟨23, _⟩ => ⟨S2x32x4096x4096, .f32⟩
  | .hbm, ⟨24, _⟩ => ⟨S2x32x1x4096, .f32⟩
  | .hbm, ⟨25, _⟩ => ⟨S2x32x4096x4096, .f32⟩
  | .hbm, ⟨26, _⟩ => ⟨S2x32x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S2x32x4096x4096, .i1⟩
  | .hbm, ⟨35, _⟩ => ⟨S2x32x4096x4096, .f32⟩
  | .hbm, ⟨36, _⟩ => ⟨S2x32x4096x4096, .f32⟩
  | .hbm, ⟨37, _⟩ => ⟨S_, .f32⟩
  | .hbm, ⟨38, _⟩ => ⟨S2x32x4096, .f32⟩
  | .hbm, ⟨39, _⟩ => ⟨S_, .f32⟩
  | .hbm, ⟨40, _⟩ => ⟨S2x32x4096, .f32⟩
  | .hbm, ⟨41, _⟩ => ⟨S2x32x4096, .f32⟩
  | .hbm, ⟨42, _⟩ => ⟨S2x32x4096x1, .f32⟩
  | .hbm, ⟨43, _⟩ => ⟨S2x32x4096x4096, .f32⟩
  | .hbm, ⟨44, _⟩ => ⟨S2x32x4096x4096, .f32⟩
  | .hbm, ⟨45, _⟩ => ⟨S2x32x4096x4096, .f32⟩
  | .hbm, ⟨46, _⟩ => ⟨S_, .f32⟩
  | .hbm, ⟨47, _⟩ => ⟨S2x32x4096, .f32⟩
  | .hbm, ⟨48, _⟩ => ⟨S2x32x4096x1, .f32⟩
  | .hbm, ⟨49, _⟩ => ⟨S2x32x4096x4096, .f32⟩
  | .hbm, ⟨50, _⟩ => ⟨S2x32x4096x4096, .f32⟩
  | .hbm, ⟨51, _⟩ => ⟨S2x32x4096x128, .f32⟩
  | .hbm, ⟨52, _⟩ => ⟨S2x4096x32x128, .f32⟩
  | .hbm, ⟨53, _⟩ => ⟨S2x4096x4096, .f32⟩
  | .hbm, ⟨54, _⟩ => ⟨S2x4096x4096, .f32⟩
  | .hbm, ⟨55, _⟩ => ⟨S2x4096x4096, .f32⟩
  | .hbm, ⟨56, _⟩ => ⟨S_, .f32⟩
  | .hbm, ⟨57, _⟩ => ⟨S2x4096x4096, .f32⟩
  | .hbm, ⟨58, _⟩ => ⟨S2x4096x4096, .f32⟩
  | .hbm, ⟨59, _⟩ => ⟨S_, .f32⟩
  | .hbm, ⟨60, _⟩ => ⟨S2x4096x4096, .f32⟩
  | .hbm, ⟨61, _⟩ => ⟨S2x4096x4096, .f32⟩
  | .hbm, ⟨62, _⟩ => ⟨S2x4096x4096, .f32⟩
  | .hbm, ⟨63, _⟩ => ⟨S2x4096x4096, .bf16⟩
  | .hbm, ⟨64, _⟩ => ⟨S8192x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Up.lean ====
abbrev S8192x4096 : Shape := ⟨2, ![8192, 4096]⟩
abbrev S2x4096x22016 : Shape := ⟨3, ![2, 4096, 22016]⟩
abbrev S2x3x22016 : Shape := ⟨3, ![2, 3, 22016]⟩
abbrev S8192x11008 : Shape := ⟨2, ![8192, 11008]⟩
abbrev S1024x4096 : Shape := ⟨2, ![1024, 4096]⟩
abbrev S1x4096x256 : Shape := ⟨3, ![1, 4096, 256]⟩
abbrev S1x3x256 : Shape := ⟨3, ![1, 3, 256]⟩
abbrev S1024x256 : Shape := ⟨2, ![1024, 256]⟩
abbrev S4096x256 : Shape := ⟨2, ![4096, 256]⟩
abbrev S8x256 : Shape := ⟨2, ![8, 256]⟩
abbrev S1032x256 : Shape := ⟨2, ![1032, 256]⟩
abbrev S3x256 : Shape := ⟨2, ![3, 256]⟩
abbrev S1x256 : Shape := ⟨2, ![1, 256]⟩

abbrev nBuf : Space → Nat
  | .hbm => 4
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S8x256, .f32⟩
  | .local _ .vmem, ⟨15, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x4096 : Shape := ⟨2, ![8192, 4096]⟩
abbrev S2x4096x22016 : Shape := ⟨3, ![2, 4096, 22016]⟩
abbrev S2x3x22016 : Shape := ⟨3, ![2, 3, 22016]⟩
abbrev S1x4096x22016 : Shape := ⟨3, ![1, 4096, 22016]⟩
abbrev S4096x22016 : Shape := ⟨2, ![4096, 22016]⟩
abbrev S8192x22016 : Shape := ⟨2, ![8192, 22016]⟩
abbrev S1x3x22016 : Shape := ⟨3, ![1, 3, 22016]⟩
abbrev S3x22016 : Shape := ⟨2, ![3, 22016]⟩
abbrev S_ : Shape := ⟨0, ![]⟩
abbrev S2x4098x22016 : Shape := ⟨3, ![2, 4098, 22016]⟩
abbrev S1x22016 : Shape := ⟨2, ![1, 22016]⟩
abbrev S22016 : Shape := ⟨1, ![22016]⟩
abbrev S1x1x22016 : Shape := ⟨3, ![1, 1, 22016]⟩
abbrev S2x4096x11008 : Shape := ⟨3, ![2, 4096, 11008]⟩
abbrev S8192x11008 : Shape := ⟨2, ![8192, 11008]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x3x22016, .f32⟩
  | .hbm, ⟨3, _⟩ => ⟨S8192x4096, .f32⟩
  | .hbm, ⟨4, _⟩ => ⟨S1x4096x22016, .f32⟩
  | .hbm, ⟨5, _⟩ => ⟨S4096x22016, .f32⟩
  | .hbm, ⟨6, _⟩ => ⟨S8192x22016, .f32⟩
  | .hbm, ⟨7, _⟩ => ⟨S2x4096x22016, .f32⟩
  | .hbm, ⟨8, _⟩ => ⟨S1x3x22016, .f32⟩
  | .hbm, ⟨9, _⟩ => ⟨S3x22016, .f32⟩
  | .hbm, ⟨10, _⟩ => ⟨S_, .i32⟩
  | .hbm, ⟨11, _⟩ => ⟨S_, .f32⟩
  | .hbm, ⟨12, _⟩ => ⟨S2x4098x22016, .f32⟩
  | .hbm, ⟨13, _⟩ => ⟨S2x4096x22016, .f32⟩
  | .hbm, ⟨14, _⟩ => ⟨S1x22016, .f32⟩
  | .hbm, ⟨15, _⟩ => ⟨S22016, .f32⟩
  | .hbm, ⟨16, _⟩ => ⟨S1x1x22016, .f32⟩
  | .hbm, ⟨17, _⟩ => ⟨S2x4096x22016, .f32⟩
  | .hbm, ⟨18, _⟩ => ⟨S2x4096x22016, .f32⟩
  | .hbm, ⟨19, _⟩ => ⟨S2x4096x22016, .f32⟩
  | .hbm, ⟨20, _⟩ => ⟨S1x22016, .f32⟩
  | .hbm, ⟨21, _⟩ => ⟨S22016, .f32⟩
  | .hbm, ⟨22, _⟩ => ⟨S1x1x22016, .f32⟩
  | .hbm, ⟨23, _⟩ => ⟨S2x4096x22016, .f32⟩
  | .hbm, ⟨24, _⟩ => ⟨S2x4096x22016, .f32⟩
  | .hbm, ⟨25, _⟩ => ⟨S2x4096x22016, .f32⟩
  | .hbm, ⟨26, _⟩ => ⟨S2x4096x22016, .f32⟩
  | .hbm, ⟨27, _⟩ => ⟨S1x22016, .f32⟩
  | .hbm, ⟨28, _⟩ => ⟨S22016, .f32⟩
  | .hbm, ⟨29, _⟩ => ⟨S1x1x22016, .f32⟩
  | .hbm, ⟨30, _⟩ => ⟨S2x4096x22016, .f32⟩
  | .hbm, ⟨31, _⟩ => ⟨S2x4096x22016, .f32⟩
  | .hbm, ⟨32, _⟩ => ⟨S2x4096x22016, .f32⟩
  | .hbm, ⟨33, _⟩ => ⟨S2x4096x11008, .f32⟩
  | .hbm, ⟨34, _⟩ => ⟨S2x4096x11008, .f32⟩
  | .hbm, ⟨35, _⟩ => ⟨S2x4096x11008, .f32⟩
  | .hbm, ⟨36, _⟩ => ⟨S2x4096x11008, .f32⟩
  | .hbm, ⟨37, _⟩ => ⟨S_, .f32⟩
  | .hbm, ⟨38, _⟩ => ⟨S2x4096x11008, .f32⟩
  | .hbm, ⟨39, _⟩ => ⟨S2x4096x11008, .f32⟩
  | .hbm, ⟨40, _⟩ => ⟨S_, .f32⟩
  | .hbm, ⟨41, _⟩ => ⟨S2x4096x11008, .f32⟩
  | .hbm, ⟨42, _⟩ => ⟨S2x4096x11008, .f32⟩
  | .hbm, ⟨43, _⟩ => ⟨S2x4096x11008, .f32⟩
  | .hbm, ⟨44, _⟩ => ⟨S2x4096x11008, .f32⟩
  | .hbm, ⟨45, _⟩ => ⟨S2x4096x11008, .bf16⟩
  | .hbm, ⟨46, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Down.lean ====
abbrev S8192x11008 : Shape := ⟨2, ![8192, 11008]⟩
abbrev S2x11008x4096 : Shape := ⟨3, ![2, 11008, 4096]⟩
abbrev S8192x4096 : Shape := ⟨2, ![8192, 4096]⟩
abbrev S2x6x4096 : Shape := ⟨3, ![2, 6, 4096]⟩
abbrev S256x11008 : Shape := ⟨2, ![256, 11008]⟩
abbrev S1x11008x256 : Shape := ⟨3, ![1, 11008, 256]⟩
abbrev S256x256 : Shape := ⟨2, ![256, 256]⟩
abbrev S1x6x256 : Shape := ⟨3, ![1, 6, 256]⟩
abbrev S11008x256 : Shape := ⟨2, ![11008, 256]⟩
abbrev S1x1x256 : Shape := ⟨3, ![1, 1, 256]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S2x6x4096, .f32⟩
  | .hbm, ⟨4, _⟩ => ⟨S8192x4096, .f32⟩
  | .local _ .vmem, ⟨0, _⟩ => ⟨S256x11008, .bf16⟩
  | .local _ .vmem, ⟨1, _⟩ => ⟨S256x11008, .bf16⟩
  | .local _ .vmem, ⟨2, _⟩ => ⟨S1x11008x256, .f32⟩
  | .local _ .vmem, ⟨3, _⟩ => ⟨S1x11008x256, .f32⟩
  | .local _ .vmem, ⟨4, _⟩ => ⟨S256x256, .f32⟩
  | .local _ .vmem, ⟨5, _⟩ => ⟨S256x256, .f32⟩
  | .local _ .vmem, ⟨6, _⟩ => ⟨S1x6x256, .f32⟩
  | .local _ .vmem, ⟨7, _⟩ => ⟨S1x6x256, .f32⟩
  | .local _ .vmem, ⟨8, _⟩ => ⟨S256x256, .f32⟩
  | .local _ .vmem, ⟨9, _⟩ => ⟨S256x256, .f32⟩
  | .local _ .vmem, ⟨10, _⟩ => ⟨S11008x256, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S8192x11008 : Shape := ⟨2, ![8192, 11008]⟩
abbrev S2x11008x4096 : Shape := ⟨3, ![2, 11008, 4096]⟩
abbrev S8192x4096 : Shape := ⟨2, ![8192, 4096]⟩
abbrev S2x6x4096 : Shape := ⟨3, ![2, 6, 4096]⟩
abbrev S1x11008x4096 : Shape := ⟨3, ![1, 11008, 4096]⟩
abbrev S11008x4096 : Shape := ⟨2, ![11008, 4096]⟩
abbrev S2x4096x4096 : Shape := ⟨3, ![2, 4096, 4096]⟩
abbrev S2x1x4096 : Shape := ⟨3, ![2, 1, 4096]⟩
abbrev S2x4096 : Shape := ⟨2, ![2, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .hbm, ⟨3, _⟩ => ⟨S2x6x4096, .f32⟩
  | .hbm, ⟨4, _⟩ => ⟨S8192x11008, .f32⟩
  | .hbm, ⟨5, _⟩ => ⟨S1x11008x4096, .f32⟩
  | .hbm, ⟨6, _⟩ => ⟨S11008x4096, .f32⟩
  | .hbm, ⟨7, _⟩ => ⟨S8192x4096, .f32⟩
  | .hbm, ⟨8, _⟩ => ⟨S2x4096x4096, .f32⟩
  | .hbm, ⟨9, _⟩ => ⟨S2x4096x4096, .f32⟩
  | .hbm, ⟨10, _⟩ => ⟨S2x1x4096, .f32⟩
  | .hbm, ⟨11, _⟩ => ⟨S2x4096, .f32⟩
  | .hbm, ⟨12, _⟩ => ⟨S2x1x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Out.lean ====
abbrev S8192x4096 : Shape := ⟨2, ![8192, 4096]⟩
abbrev S1x4096x4096 : Shape := ⟨3, ![1, 4096, 4096]⟩
abbrev S2x6x4096 : Shape := ⟨3, ![2, 6, 4096]⟩
abbrev S1024x4096 : Shape := ⟨2, ![1024, 4096]⟩
abbrev S1x4096x512 : Shape := ⟨3, ![1, 4096, 512]⟩
abbrev S1024x512 : Shape := ⟨2, ![1024, 512]⟩
abbrev S1x6x512 : Shape := ⟨3, ![1, 6, 512]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S2x6x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8192x4096 : Shape := ⟨2, ![8192, 4096]⟩
abbrev S1x4096x4096 : Shape := ⟨3, ![1, 4096, 4096]⟩
abbrev S2x6x4096 : Shape := ⟨3, ![2, 6, 4096]⟩
abbrev S4096x4096 : Shape := ⟨2, ![4096, 4096]⟩
abbrev S2x4096x4096 : Shape := ⟨3, ![2, 4096, 4096]⟩
abbrev S2x1x4096 : Shape := ⟨3, ![2, 1, 4096]⟩
abbrev S2x4096 : Shape := ⟨2, ![2, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S2x6x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S2x4096x4096, .f32⟩
  | .hbm, ⟨8, _⟩ => ⟨S2x4096x4096, .f32⟩
  | .hbm, ⟨9, _⟩ => ⟨S2x1x4096, .f32⟩
  | .hbm, ⟨10, _⟩ => ⟨S2x4096, .f32⟩
  | .hbm, ⟨11, _⟩ => ⟨S2x1x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Inproj.lean ====
abbrev S8192x4096 : Shape := ⟨2, ![8192, 4096]⟩
abbrev S1x4096x16416 : Shape := ⟨3, ![1, 4096, 16416]⟩
abbrev S128 : Shape := ⟨1, ![128]⟩
abbrev S1x128 : Shape := ⟨2, ![1, 128]⟩
abbrev S8192x16384 : Shape := ⟨2, ![8192, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x16416, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x128, .f32⟩
  | .local _ .vmem, ⟨5, _⟩ => ⟨S1x128, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg0 : BitVec 32 := BitVec.ofNat 32 (i 0).val
  let c8_i32_5 : BitVec 32 := 8#32
  let v9 : BitVec 1 := Scalar.cmpi .sge arg0 c8_i32_5
  let c16_i32 : BitVec 32 := 16#32
  let v10 : BitVec 1 := Scalar.cmpi .slt arg0 c16_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c16_i32_7 : BitVec 32 := 16#32
  let v14 : BitVec 1 := Scalar.cmpi .sge arg0 c16_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S8192x4096 : Shape := ⟨2, ![8192, 4096]⟩
abbrev S1x4096x16416 : Shape := ⟨3, ![1, 4096, 16416]⟩
abbrev S128 : Shape := ⟨1, ![128]⟩
abbrev S4096x16416 : Shape := ⟨2, ![4096, 16416]⟩
abbrev S8192x16416 : Shape := ⟨2, ![8192, 16416]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x1x128 : Shape := ⟨3, ![1, 1, 128]⟩
abbrev S8192x8192 : Shape := ⟨2, ![8192, 8192]⟩
abbrev S8192x16384 : Shape := ⟨2, ![8192, 16384]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16416, .f32⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S4096x16416, .f32⟩
  | .hbm, ⟨6, _⟩ => ⟨S8192x16416, .f32⟩
  | .hbm, ⟨7, _⟩ => ⟨S8192x4096, .f32⟩
  | .hbm, ⟨8, _⟩ => ⟨S8192x32x128, .f32⟩
  | .hbm, ⟨9, _⟩ => ⟨S8192x32x128, .f32⟩
  | .hbm, ⟨10, _⟩ => ⟨S_, .f32⟩
  | .hbm, ⟨11, _⟩ => ⟨S8192x32, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S_, .f32⟩
  | .hbm, ⟨17, _⟩ => ⟨S8192x32x1, .f32⟩
  | .hbm, ⟨18, _⟩ => ⟨S8192x32x1, .f32⟩
  | .hbm, ⟨19, _⟩ => ⟨S8192x32x1, .f32⟩
  | .hbm, ⟨20, _⟩ => ⟨S8192x32x128, .f32⟩
  | .hbm, ⟨21, _⟩ => ⟨S8192x32x128, .f32⟩
  | .hbm, ⟨22, _⟩ => ⟨S1x1x128, .f32⟩
  | .hbm, ⟨23, _⟩ => ⟨S8192x32x128, .f32⟩
  | .hbm, ⟨24, _⟩ => ⟨S8192x32x128, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x32x128, .f32⟩
  | .hbm, ⟨31, _⟩ => ⟨S8192x32x128, .f32⟩
  | .hbm, ⟨32, _⟩ => ⟨S_, .f32⟩
  | .hbm, ⟨33, _⟩ => ⟨S8192x32, .f32⟩
  | .hbm, ⟨34, _⟩ => ⟨S8192x32x1, .f32⟩
  | .hbm, ⟨35, _⟩ => ⟨S_, .f32⟩
  | .hbm, ⟨36, _⟩ => ⟨S8192x32x1, .f32⟩
  | .hbm, ⟨37, _⟩ => ⟨S8192x32x1, .f32⟩
  | .hbm, ⟨38, _⟩ => ⟨S_, .f32⟩
  | .hbm, ⟨39, _⟩ => ⟨S8192x32x1, .f32⟩
  | .hbm, ⟨40, _⟩ => ⟨S8192x32x1, .f32⟩
  | .hbm, ⟨41, _⟩ => ⟨S8192x32x1, .f32⟩
  | .hbm, ⟨42, _⟩ => ⟨S8192x32x128, .f32⟩
  | .hbm, ⟨43, _⟩ => ⟨S8192x32x128, .f32⟩
  | .hbm, ⟨44, _⟩ => ⟨S1x1x128, .f32⟩
  | .hbm, ⟨45, _⟩ => ⟨S8192x32x128, .f32⟩
  | .hbm, ⟨46, _⟩ => ⟨S8192x32x128, .f32⟩
  | .hbm, ⟨47, _⟩ => ⟨S8192x4096, .f32⟩
  | .hbm, ⟨48, _⟩ => ⟨S8192x8192, .f32⟩
  | .hbm, ⟨49, _⟩ => ⟨S8192x16384, .f32⟩
  | .hbm, ⟨50, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Mm.lean ====
abbrev S8192x4096 : Shape := ⟨2, ![8192, 4096]⟩
abbrev S1x4096x16448 : Shape := ⟨3, ![1, 4096, 16448]⟩
abbrev S8192x16384 : Shape := ⟨2, ![8192, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x16448, .f32⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S8192x4096 : Shape := ⟨2, ![8192, 4096]⟩
abbrev S1x4096x16448 : Shape := ⟨3, ![1, 4096, 16448]⟩
abbrev S4096x16448 : Shape := ⟨2, ![4096, 16448]⟩
abbrev S8192x16448 : Shape := ⟨2, ![8192, 16448]⟩
abbrev S8192x16384 : Shape := ⟨2, ![8192, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16448, .f32⟩
  | .hbm, ⟨2, _⟩ => ⟨S8192x4096, .f32⟩
  | .hbm, ⟨3, _⟩ => ⟨S4096x16448, .f32⟩
  | .hbm, ⟨4, _⟩ => ⟨S8192x16448, .f32⟩
  | .hbm, ⟨5, _⟩ => ⟨S8192x16384, .f32⟩
  | .hbm, ⟨6, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x4096 : Shape := ⟨2, ![8192, 4096]⟩
abbrev S4096 : Shape := ⟨1, ![4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2x4096x4096, .f32⟩
  | .hbm, ⟨3, _⟩ => ⟨S2x4096x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Norm.lean ====
abbrev S8192x4096 : Shape := ⟨2, ![8192, 4096]⟩
abbrev S2x4096 : Shape := ⟨2, ![2, 4096]⟩
abbrev S2x6x4096 : Shape := ⟨3, ![2, 6, 4096]⟩
abbrev S1x4096 : Shape := ⟨2, ![1, 4096]⟩
abbrev S4096 : Shape := ⟨1, ![4096]⟩
abbrev S256x4096 : Shape := ⟨2, ![256, 4096]⟩
abbrev S1x6x4096 : Shape := ⟨3, ![1, 6, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x6x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8192x4096 : Shape := ⟨2, ![8192, 4096]⟩
abbrev S2x4096 : Shape := ⟨2, ![2, 4096]⟩
abbrev S2x6x4096 : Shape := ⟨3, ![2, 6, 4096]⟩
abbrev S2x4096x4096 : Shape := ⟨3, ![2, 4096, 4096]⟩
abbrev S_ : Shape := ⟨0, ![]⟩
abbrev S2x4096x1 : Shape := ⟨3, ![2, 4096, 1]⟩
abbrev S1x4096 : Shape := ⟨2, ![1, 4096]⟩
abbrev S4096 : Shape := ⟨1, ![4096]⟩
abbrev S1x1x4096 : Shape := ⟨3, ![1, 1, 4096]⟩
abbrev S2x1x4096 : Shape := ⟨3, ![2, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x6x4096, .f32⟩
  | .hbm, ⟨3, _⟩ => ⟨S2x4096x4096, .f32⟩
  | .hbm, ⟨4, _⟩ => ⟨S2x4096x4096, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x4096, .f32⟩
  | .hbm, ⟨16, _⟩ => ⟨S2x4096x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S2x4096x4096, .f32⟩
  | .hbm, ⟨21, _⟩ => ⟨S2x4096x4096, .f32⟩
  | .hbm, ⟨22, _⟩ => ⟨S2x1x4096, .f32⟩
  | .hbm, ⟨23, _⟩ => ⟨S2x4096, .f32⟩
  | .hbm, ⟨24, _⟩ => ⟨S2x1x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x1x4096, .f32⟩
  | .hbm, ⟨31, _⟩ => ⟨S2x4096, .f32⟩
  | .hbm, ⟨32, _⟩ => ⟨S2x1x4096, .f32⟩
  | .hbm, ⟨33, _⟩ => ⟨S2x4096x4096, .f32⟩
  | .hbm, ⟨34, _⟩ => ⟨S2x4096x4096, .f32⟩
  | .hbm, ⟨35, _⟩ => ⟨S2x4096x4096, .bf16⟩
  | .hbm, ⟨36, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Mod.lean ====
abbrev S2x4096 : Shape := ⟨2, ![2, 4096]⟩
abbrev S2x4096x24576 : Shape := ⟨3, ![2, 4096, 24576]⟩
abbrev S2x24576 : Shape := ⟨2, ![2, 24576]⟩
abbrev S2x4096x1 : Shape := ⟨3, ![2, 4096, 1]⟩
abbrev S2x4096x128 : Shape := ⟨3, ![2, 4096, 128]⟩
abbrev S2x1x24576 : Shape := ⟨3, ![2, 1, 24576]⟩
abbrev S2x2x24576 : Shape := ⟨3, ![2, 2, 24576]⟩
abbrev S1x4096x512 : Shape := ⟨3, ![1, 4096, 512]⟩
abbrev S1x1x512 : Shape := ⟨3, ![1, 1, 512]⟩
abbrev S1x2x512 : Shape := ⟨3, ![1, 2, 512]⟩
abbrev S1x4096x128 : Shape := ⟨3, ![1, 4096, 128]⟩
abbrev S4096x128 : Shape := ⟨2, ![4096, 128]⟩
abbrev S128 : Shape := ⟨1, ![128]⟩
abbrev S1x128 : Shape := ⟨2, ![1, 128]⟩
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096x1, .f32⟩
  | .hbm, ⟨4, _⟩ => ⟨S2x4096x128, .f32⟩
  | .hbm, ⟨5, _⟩ => ⟨S2x1x24576, .f32⟩
  | .hbm, ⟨6, _⟩ => ⟨S2x2x24576, .f32⟩
  | .local _ .vmem, ⟨0, _⟩ => ⟨S2x4096x128, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x2x512, .f32⟩
  | .local _ .vmem, ⟨6, _⟩ => ⟨S1x2x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x4096 : Shape := ⟨2, ![2, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S1x24576 : Shape := ⟨2, ![1, 24576]⟩
abbrev S24576 : Shape := ⟨1, ![24576]⟩
abbrev S1x2x24576 : Shape := ⟨3, ![1, 2, 24576]⟩
abbrev S2x2x24576 : Shape := ⟨3, ![2, 2, 24576]⟩

abbrev nBuf : Space → Nat
  | .hbm => 31
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S1x4096x24576, .f32⟩
  | .hbm, ⟨13, _⟩ => ⟨S4096x24576, .f32⟩
  | .hbm, ⟨14, _⟩ => ⟨S2x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S2x24576, .f32⟩
  | .hbm, ⟨19, _⟩ => ⟨S2x24576, .f32⟩
  | .hbm, ⟨20, _⟩ => ⟨S1x4096x24576, .f32⟩
  | .hbm, ⟨21, _⟩ => ⟨S4096x24576, .f32⟩
  | .hbm, ⟨22, _⟩ => ⟨S2x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S2x24576, .f32⟩
  | .hbm, ⟨27, _⟩ => ⟨S2x24576, .f32⟩
  | .hbm, ⟨28, _⟩ => ⟨S1x2x24576, .f32⟩
  | .hbm, ⟨29, _⟩ => ⟨S1x2x24576, .f32⟩
  | .hbm, ⟨30, _⟩ => ⟨S2x2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== FoxGates.lean ====
abbrev S8192x4096 : Shape := ⟨2, ![8192, 4096]⟩
abbrev S1x4096x16416 : Shape := ⟨3, ![1, 4096, 16416]⟩
abbrev S1x32 : Shape := ⟨2, ![1, 32]⟩
abbrev S4096x16416 : Shape := ⟨2, ![4096, 16416]⟩
abbrev S4096x32 : Shape := ⟨2, ![4096, 32]⟩
abbrev S32 : Shape := ⟨1, ![32]⟩
abbrev S8192x32 : Shape := ⟨2, ![8192, 32]⟩
abbrev S512x4096 : Shape := ⟨2, ![512, 4096]⟩
abbrev S512x32 : Shape := ⟨2, ![512, 32]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x16416, .f32⟩
  | .hbm, ⟨2, _⟩ => ⟨S1x32, .f32⟩
  | .hbm, ⟨3, _⟩ => ⟨S4096x16416, .f32⟩
  | .hbm, ⟨4, _⟩ => ⟨S4096x32, .f32⟩
  | .hbm, ⟨5, _⟩ => ⟨S32, .f32⟩
  | .hbm, ⟨6, _⟩ => ⟨S1x32, .f32⟩
  | .hbm, ⟨7, _⟩ => ⟨S8192x32, .f32⟩
  | .local _ .vmem, ⟨0, _⟩ => ⟨S512x4096, .bf16⟩
  | .local _ .vmem, ⟨1, _⟩ => ⟨S512x4096, .bf16⟩
  | .local _ .vmem, ⟨2, _⟩ => ⟨S4096x32, .f32⟩
  | .local _ .vmem, ⟨3, _⟩ => ⟨S1x32, .f32⟩
  | .local _ .vmem, ⟨4, _⟩ => ⟨S512x32, .f32⟩
  | .local _ .vmem, ⟨5, _⟩ => ⟨S512x32, .f32⟩
  | .local _ .vmem, ⟨6, _⟩ => ⟨S1x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxGatesRefIdeal.lean ====
abbrev S8192x4096 : Shape := ⟨2, ![8192, 4096]⟩
abbrev S1x4096x16416 : Shape := ⟨3, ![1, 4096, 16416]⟩
abbrev S1x32 : Shape := ⟨2, ![1, 32]⟩
abbrev S4096x16416 : Shape := ⟨2, ![4096, 16416]⟩
abbrev S8192x16416 : Shape := ⟨2, ![8192, 16416]⟩
abbrev S8192x32 : Shape := ⟨2, ![8192, 32]⟩
abbrev S32 : Shape := ⟨1, ![32]⟩
abbrev S_ : Shape := ⟨0, ![]⟩
abbrev S2x4096x32 : Shape := ⟨3, ![2, 4096, 32]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16416, .f32⟩
  | .hbm, ⟨2, _⟩ => ⟨S1x32, .f32⟩
  | .hbm, ⟨3, _⟩ => ⟨S8192x4096, .f32⟩
  | .hbm, ⟨4, _⟩ => ⟨S4096x16416, .f32⟩
  | .hbm, ⟨5, _⟩ => ⟨S8192x16416, .f32⟩
  | .hbm, ⟨6, _⟩ => ⟨S8192x32, .f32⟩
  | .hbm, ⟨7, _⟩ => ⟨S32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .i1⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S2x4096x32, .f32⟩
  | .hbm, ⟨28, _⟩ => ⟨S_, .f32⟩
  | .hbm, ⟨29, _⟩ => ⟨S_, .f32⟩
  | .hbm, ⟨30, _⟩ => ⟨S2x4096x32, .f32⟩
  | .hbm, ⟨31, _⟩ => ⟨S8192x32, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩
abbrev main_call1_call0_cst : Ref sig .tc := ⟨.hbm, 28, rfl⟩
abbrev main_call1_call0_v0 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== GdnGates.lean ====
abbrev S8192x4096 : Shape := ⟨2, ![8192, 4096]⟩
abbrev S1x4096x16448 : Shape := ⟨3, ![1, 4096, 16448]⟩
abbrev S1x32 : Shape := ⟨2, ![1, 32]⟩
abbrev S4096x16448 : Shape := ⟨2, ![4096, 16448]⟩
abbrev S4096x32 : Shape := ⟨2, ![4096, 32]⟩
abbrev S32 : Shape := ⟨1, ![32]⟩
abbrev S8192x32 : Shape := ⟨2, ![8192, 32]⟩
abbrev S256x4096 : Shape := ⟨2, ![256, 4096]⟩
abbrev S256x32 : Shape := ⟨2, ![256, 32]⟩
abbrev S256x256 : Shape := ⟨2, ![256, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x16448, .f32⟩
  | .hbm, ⟨2, _⟩ => ⟨S1x32, .f32⟩
  | .hbm, ⟨3, _⟩ => ⟨S1x32, .f32⟩
  | .hbm, ⟨4, _⟩ => ⟨S4096x16448, .f32⟩
  | .hbm, ⟨5, _⟩ => ⟨S4096x32, .f32⟩
  | .hbm, ⟨6, _⟩ => ⟨S4096x32, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S1x32, .f32⟩
  | .hbm, ⟨11, _⟩ => ⟨S8192x32, .f32⟩
  | .hbm, ⟨12, _⟩ => ⟨S8192x32, .f32⟩
  | .local _ .vmem, ⟨0, _⟩ => ⟨S256x4096, .bf16⟩
  | .local _ .vmem, ⟨1, _⟩ => ⟨S256x4096, .bf16⟩
  | .local _ .vmem, ⟨2, _⟩ => ⟨S4096x32, .f32⟩
  | .local _ .vmem, ⟨3, _⟩ => ⟨S4096x32, .f32⟩
  | .local _ .vmem, ⟨4, _⟩ => ⟨S1x32, .f32⟩
  | .local _ .vmem, ⟨5, _⟩ => ⟨S1x32, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GdnGatesRefIdeal.lean ====
abbrev S8192x4096 : Shape := ⟨2, ![8192, 4096]⟩
abbrev S1x4096x16448 : Shape := ⟨3, ![1, 4096, 16448]⟩
abbrev S1x32 : Shape := ⟨2, ![1, 32]⟩
abbrev S4096x16448 : Shape := ⟨2, ![4096, 16448]⟩
abbrev S8192x16448 : Shape := ⟨2, ![8192, 16448]⟩
abbrev S8192x32 : Shape := ⟨2, ![8192, 32]⟩
abbrev S_ : Shape := ⟨0, ![]⟩
abbrev S32 : Shape := ⟨1, ![32]⟩
abbrev S128x64x32 : Shape := ⟨3, ![128, 64, 32]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x16448, .f32⟩
  | .hbm, ⟨2, _⟩ => ⟨S1x32, .f32⟩
  | .hbm, ⟨3, _⟩ => ⟨S1x32, .f32⟩
  | .hbm, ⟨4, _⟩ => ⟨S8192x4096, .f32⟩
  | .hbm, ⟨5, _⟩ => ⟨S4096x16448, .f32⟩
  | .hbm, ⟨6, _⟩ => ⟨S8192x16448, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S8192x32, .f32⟩
  | .hbm, ⟨20, _⟩ => ⟨S32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S_, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .i1⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S1x32, .f32⟩
  | .hbm, ⟨39, _⟩ => ⟨S8192x32, .f32⟩
  | .hbm, ⟨40, _⟩ => ⟨S8192x32, .f32⟩
  | .hbm, ⟨41, _⟩ => ⟨S128x64x32, .f32⟩
  | .hbm, ⟨42, _⟩ => ⟨S_, .f32⟩
  | .hbm, ⟨43, _⟩ => ⟨S_, .f32⟩
  | .hbm, ⟨44, _⟩ => ⟨S128x64x32, .f32⟩
  | .hbm, ⟨45, _⟩ => ⟨S8192x32, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_call0_cst : Ref sig .tc := ⟨.hbm, 42, rfl⟩
abbrev main_call1_call0_v0 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Proof.AttnIdeal.Body.lean ====
/-
  What one grid point of the attention call computes. At a point the kernel holds one head of one batch row: the
  blocks of queries `Q`, keys `K`, values `W`, output gates `G` (4096 × 128), the cumulative log forget gates of all
  heads by position (`CN`, 4096 × 32) and of this head by position, cut in eight rows of 512 (`CR`). The outer loop takes
  one tile of 512 queries per trip; the inner loop takes one tile of 512 keys per trip, carrying the running maximum,
  the running denominator and the running numerator. Here: those carried values as a recursion (`stTo`), the tile one
  trip of the outer loop stores (`tile`), the block the point leaves (`outFn`), and the body's triple.
-/
module

public import proofs.«01_k».proof.Proof.Gen.AttnIdeal.Frame
public import proofs.«01_k».proof.Proof.Gen.AttnIdeal.Skeleton

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### Loads and stores of an owned memref -/

/-- A load through a rectangle of a memref owned at `X` reads `X` there and keeps the memref. -/
theorem load_owned (c : Dev nD) {α : Type} {cs : CoreSpace} {s : Shape} {e : EltTy} (M : Memref sig .tc cs s e) (X : s.Idx → Elt F e) (r : Rect s)
    {hl : M.view.LoadsAt r.toLoadRect} {k : (r.shape.Idx → Elt F e) → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) Variants.none (c : Thread nD τ) none) Set.univ (k (fun j => X (r.emb j))) Q)
        -∗ wp frame (wpE (defs₀ (F := F)) Variants.none (c : Thread nD τ) none) Set.univ (.op (.load M r.toLoadRect hl) k) Q) := by
  unfold owns
  iintro ⟨%f, %hf, H⟩ HK
  iapply (wp_load_rect Variants.none (c : Thread nD τ) none Set.univ (m := M) (r := r) (View.set_slice_subset _ _)) $$ H
  iintro H
  have e : (M.access r).read (Elt F) f = fun j => X (r.emb j) := by rw [← hf]; rfl
  rw [e]
  iapply HK
  iexists f; isplitr
  · ipureintro; exact hf
  iexact H

/-- An unmasked store through a rectangle of a memref owned at `X` leaves it owned at `X` overlaid by what is stored. -/
theorem store_owned (c : Dev nD) {α : Type} {cs : CoreSpace} {s : Shape} {e : EltTy} (M : Memref sig .tc cs s e) (X : s.Idx → Elt F e) (r : Rect s)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (owns (c : Thread nD τ) M fullShare X : sProp 𝕄)
      ⊢ iprop((owns (c : Thread nD τ) M fullShare (r.overlay X w) -∗ wp frame (wpE (defs₀ (F := F)) Variants.none (c : Thread nD τ) none) Set.univ (k ⟨⟩) Q)
        -∗ wp frame (wpE (defs₀ (F := F)) Variants.none (c : Thread nD τ) none) Set.univ (.op (.store M r w Finset.univ hx hm) k) Q) := by
  unfold owns
  iintro ⟨%f, %hf, H⟩ HK
  iapply (wp_store Variants.none (c : Thread nD τ) none Set.univ (m := M) (r := r) (Mk := Finset.univ) (by rw [View.setOn_univ]; exact View.set_slice_subset _ _)) $$ H
  iintro H
  iapply HK
  iexists _; isplitr
  swap; · iexact H
  ipureintro
  funext y
  by_cases hy : y ∈ r.set
  · obtain ⟨j, rfl⟩ : ∃ j, r.emb j = y := by
      rw [← Rect.map_emb_univ] at hy; simpa using hy
    rw [Rect.overlay_emb]
    exact View.read_slice_write_emb r f w (Finset.mem_univ j)
  · rw [Rect.overlay_of_not_mem _ _ _ hy]
    exact (View.read_slice_write_of_not_mem r f w _ (by simpa [Rect.map_emb_univ] using hy)).trans (congrFun hf y)

/-! ### The values -/

/-- The block of queries (or keys, or values, or gates) trip `k` of the outer loop reads. -/
abbrev at1 (X : Vec F S4096x128 .bf16) (k : Fin k0_t1_loop.trips) : Vec F S512x128 .bf16 :=
  fun j => X ((Rect.unit (s := S4096x128) (k0_off1 k) S512x128.size (k0_off1_inb k)).emb j)
/-- The rows of cumulative gates trip `k` of the outer loop reads. -/
abbrev at2 (X : Vec F S4096x32 .f32) (k : Fin k0_t1_loop.trips) : Vec F S512x32 .f32 :=
  fun j => X ((Rect.unit (s := S4096x32) (k0_off2 k) S512x32.size (k0_off2_inb k)).emb j)
/-- The tile of keys (or values) trip `n` of the inner loop reads. -/
abbrev at3 (X : Vec F S4096x128 .bf16) (k : Fin k0_t1_loop.trips) (n : Fin (k0_t2_loop k).trips) : Vec F S512x128 .bf16 :=
  fun j => X ((Rect.unit (s := S4096x128) (k0_off3 k n) S512x128.size (k0_off3_inb k n)).emb j)
/-- The row of cumulative gates trip `n` of the inner loop reads. -/
abbrev at4 (X : Vec F S1x1x8x1x512 .f32) (k : Fin k0_t1_loop.trips) (n : Fin (k0_t2_loop k).trips) : Vec F S1x1x1x1x512 .f32 :=
  fun j => X ((Rect.unit (s := S1x1x8x1x512) (k0_off4 k n) S1x1x1x1x512.size (k0_off4_inb k n)).emb j)
/-- The row of cumulative gates of the diagonal tile. -/
abbrev at7 (X : Vec F S1x1x8x1x512 .f32) (k : Fin k0_t1_loop.trips) : Vec F S1x1x1x1x512 .f32 :=
  fun j => X ((Rect.unit (s := S1x1x8x1x512) (k0_off7 k) S1x1x1x1x512.size (k0_off7_inb k)).emb j)

/-- The carried values (running maximum, denominator, numerator) before trip `n` of the inner loop, for the tile of
    queries `q` with gate rows `cn`. -/
def stTo (v5 : FVec F S1x32 .f32) (K W : Vec F S4096x128 .bf16) (CR : Vec F S1x1x8x1x512 .f32) (k : Fin k0_t1_loop.trips)
    (q : Vec F S512x128 .bf16) (cn : Vec F S512x32 .f32) : ℕ → FVec F S512x1 .f32 × FVec F S512x1 .f32 × FVec F S512x128 .f32
  | 0 => (k0_pay5 (F := F), k0_pay6 (F := F), k0_pay7 (F := F))
  | n + 1 =>
    if h : n < (k0_t2_loop k).trips then
      (k0_pay9 v5 q cn (stTo v5 K W CR k q cn n).1 (at3 K k ⟨n, h⟩) (at4 CR k ⟨n, h⟩),
        k0_pay12 v5 q cn (stTo v5 K W CR k q cn n).1 (stTo v5 K W CR k q cn n).2.1 (at3 K k ⟨n, h⟩) (at4 CR k ⟨n, h⟩),
        k0_pay13 v5 q cn (stTo v5 K W CR k q cn n).1 (stTo v5 K W CR k q cn n).2.2 (at3 K k ⟨n, h⟩) (at3 W k ⟨n, h⟩) (at4 CR k ⟨n, h⟩))
    else stTo v5 K W CR k q cn n

theorem stTo_zero (v5 : FVec F S1x32 .f32) (K W : Vec F S4096x128 .bf16) (CR : Vec F S1x1x8x1x512 .f32) (k : Fin k0_t1_loop.trips)
    (q : Vec F S512x128 .bf16) (cn : Vec F S512x32 .f32) :
    stTo v5 K W CR k q cn 0 = (k0_pay5 (F := F), k0_pay6 (F := F), k0_pay7 (F := F)) := rfl

/-- One trip of the inner loop takes the carried values to the next. -/
theorem stTo_succ (v5 : FVec F S1x32 .f32) (K W : Vec F S4096x128 .bf16) (CR : Vec F S1x1x8x1x512 .f32) (k : Fin k0_t1_loop.trips)
    (q : Vec F S512x128 .bf16) (cn : Vec F S512x32 .f32) (n : Fin (k0_t2_loop k).trips) :
    stTo v5 K W CR k q cn (n.val + 1)
      = (k0_pay9 v5 q cn (stTo v5 K W CR k q cn n.val).1 (at3 K k n) (at4 CR k n),
        k0_pay12 v5 q cn (stTo v5 K W CR k q cn n.val).1 (stTo v5 K W CR k q cn n.val).2.1 (at3 K k n) (at4 CR k n),
        k0_pay13 v5 q cn (stTo v5 K W CR k q cn n.val).1 (stTo v5 K W CR k q cn n.val).2.2 (at3 K k n) (at3 W k n) (at4 CR k n)) := by
  rw [stTo, dif_pos n.isLt]

/-- The carried values after the inner loop of trip `k` of the outer loop. -/
def stEnd (i : grid0.Coords) (Q K W : Vec F S4096x128 .bf16) (CN : Vec F S4096x32 .f32) (CR : Vec F S1x1x8x1x512 .f32) (k : Fin k0_t1_loop.trips) :
    FVec F S512x1 .f32 × FVec F S512x1 .f32 × FVec F S512x128 .f32 :=
  stTo (k0_pay1 i) K W CR k (at1 Q k) (at2 CN k) (k0_t2_loop k).trips

/-- What trip `k` of the outer loop stores. -/
def tile (i : grid0.Coords) (Q K W G : Vec F S4096x128 .bf16) (CN : Vec F S4096x32 .f32) (CR : Vec F S1x1x8x1x512 .f32) (k : Fin k0_t1_loop.trips) :
    FVec F S512x128 .bf16 :=
  k0_pay3 (stEnd i Q K W CN CR k).1 (stEnd i Q K W CN CR k).2.1 (stEnd i Q K W CN CR k).2.2 (at1 W k)
    (k0_pay20 (k0_pay1 i) k0_pay2 (at1 Q k) (at2 CN k) (at1 K k) (at7 CR k))
    (k0_pay21 (k0_pay1 i) k0_pay2 (at1 Q k) (at2 CN k) (at1 K k) (at7 CR k)) (at1 G k)

theorem trips1 : k0_t1_loop.trips = 8 := by decide +kernel
theorem trips3 (k : Fin k0_t1_loop.trips) : (k0_t3_loop k).trips = 0 := Nat.le_zero.mp (k0_t3_abs k).2.1
theorem trips2 : ∀ k : Fin k0_t1_loop.trips, (k0_t2_loop k).trips = k.val := by decide +kernel

/-- The tile row `y` of the block lies in. -/
def tileOf (y : S4096x128.Idx) : Fin k0_t1_loop.trips :=
  ⟨(y 0).val / 512, by rw [trips1]; exact Nat.div_lt_of_lt_mul (y 0).isLt⟩
/-- Its place in that tile. -/
def inTile (y : S4096x128.Idx) : S512x128.Idx :=
  fun a => match a with
    | ⟨0, _⟩ => ⟨(y 0).val % 512, Nat.mod_lt _ (by decide)⟩
    | ⟨1, _⟩ => y 1

/-- The block the grid point leaves. -/
def outFn (i : grid0.Coords) (Q K W G : Vec F S4096x128 .bf16) (CN : Vec F S4096x32 .f32) (CR : Vec F S1x1x8x1x512 .f32) : Vec F S4096x128 .bf16 :=
  fun y => tile i Q K W G CN CR (tileOf y) (inTile y)

/-- The rectangle of trip `k` puts its index `j` at row `512 k + j`. -/
theorem emb1_val0 (k : Fin k0_t1_loop.trips) (j : S512x128.Idx) :
    (((Rect.unit (s := S4096x128) (k0_off1 k) S512x128.size (k0_off1_inb k)).emb j) 0).val = 512 * k.val + (j 0).val := by
  show (k0_off1 k) 0 + 1 * (j 0).val = _
  rw [k0_off1_eq, Nat.one_mul]; rfl
theorem emb1_val1 (k : Fin k0_t1_loop.trips) (j : S512x128.Idx) :
    (((Rect.unit (s := S4096x128) (k0_off1 k) S512x128.size (k0_off1_inb k)).emb j) 1).val = (j 1).val := by
  show (k0_off1 k) 1 + 1 * (j 1).val = _
  rw [k0_off1_eq, Nat.one_mul]; exact Nat.zero_add _

theorem tileOf_emb (k : Fin k0_t1_loop.trips) (j : S512x128.Idx) :
    tileOf ((Rect.unit (s := S4096x128) (k0_off1 k) S512x128.size (k0_off1_inb k)).emb j) = k := by
  apply Fin.ext
  show _ / 512 = _
  rw [emb1_val0]; have : (j 0).val < 512 := (j 0).isLt
  omega
theorem inTile_emb (k : Fin k0_t1_loop.trips) (j : S512x128.Idx) :
    inTile ((Rect.unit (s := S4096x128) (k0_off1 k) S512x128.size (k0_off1_inb k)).emb j) = j := by
  funext a
  match a with
  | ⟨0, _⟩ =>
    apply Fin.ext
    show _ % 512 = _
    rw [emb1_val0]; have : (j 0).val < 512 := (j 0).isLt
    show _ = (j 0).val
    omega
  | ⟨1, _⟩ => exact Fin.ext (emb1_val1 k j)

/-- A row below `512 (k + 1)` is in trip `k`'s rectangle or below `512 k`. -/
theorem mem_or_lt (k : Fin k0_t1_loop.trips) (y : S4096x128.Idx) (hy : (y 0).val < 512 * (k.val + 1)) :
    (∃ j, (Rect.unit (s := S4096x128) (k0_off1 k) S512x128.size (k0_off1_inb k)).emb j = y) ∨ (y 0).val < 512 * k.val := by
  by_cases h : (y 0).val < 512 * k.val
  · exact .inr h
  · refine .inl ⟨inTile y, ?_⟩
    funext a
    match a with
    | ⟨0, _⟩ =>
      apply Fin.ext
      refine (emb1_val0 k (inTile y)).trans ?_
      show 512 * k.val + (y 0).val % 512 = (y 0).val
      omega
    | ⟨1, _⟩ => exact Fin.ext (emb1_val1 k (inTile y))

/-! ### The triples -/

/-- The block memrefs the body reads, held at the point's blocks. -/
def ins (c : Dev nD) (arg2 arg3 arg4 arg5 : Memref sig .tc .vmem S4096x128 .bf16) (arg6 : Memref sig .tc .vmem S4096x32 .f32) (arg7 : Memref sig .tc .vmem S1x1x8x1x512 .f32)
    (Q K W G : Vec F S4096x128 .bf16) (CN : Vec F S4096x32 .f32) (CR : Vec F S1x1x8x1x512 .f32) : sProp 𝕄 :=
  iprop(owns (c : Thread nD τ) arg2 fullShare Q ∗ owns (c : Thread nD τ) arg3 fullShare K ∗ owns (c : Thread nD τ) arg4 fullShare W
    ∗ owns (c : Thread nD τ) arg5 fullShare G ∗ owns (c : Thread nD τ) arg6 fullShare CN ∗ owns (c : Thread nD τ) arg7 fullShare CR)

section
variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x32 .f32) (harg6 : arg6.IsWhole) (arg7 : Memref sig .tc .vmem S1x1x8x1x512 .f32) (harg7 : arg7.IsWhole) (arg8 : Memref sig .tc .vmem S4096x128 .bf16) (harg8 : arg8.IsWhole)
  (Q K W G : Vec F S4096x128 .bf16) (CN : Vec F S4096x32 .f32) (CR : Vec F S1x1x8x1x512 .f32)

/-- The inner loop's invariant: the carried values are `stTo` at the trip, the keys, values and gate rows are held. -/
def inv2 (k : Fin k0_t1_loop.trips) (v5 : FVec F S1x32 .f32) (v13 : Vec F S512x128 .bf16) (v15 : Vec F S512x32 .f32) (n : ℕ)
    (acc : FVec F S512x1 .f32 × FVec F S512x1 .f32 × FVec F S512x128 .f32) : sProp 𝕄 :=
  iprop(⌜acc = stTo v5 K W CR k v13 v15 n⌝ ∗ owns (c : Thread nD τ) arg3 fullShare K ∗ owns (c : Thread nD τ) arg4 fullShare W
    ∗ owns (c : Thread nD τ) arg7 fullShare CR)

/-- One trip of the inner loop keeps its invariant. -/
theorem trip2 (k : Fin k0_t1_loop.trips) (v5 : FVec F S1x32 .f32) (v8 : IVec S512x512 1) (c0 c1 : BitVec 32) (v13 : Vec F S512x128 .bf16) (v15 : Vec F S512x32 .f32)
    (n : Fin (k0_t2_loop k).trips) (acc : FVec F S512x1 .f32 × FVec F S512x1 .f32 × FVec F S512x128 .f32) :
    inv2 c arg3 arg4 arg7 K W CR k v5 v13 v15 n.val acc
      ⊢ wp frame (wpE (defs₀ (F := F)) Variants.none (c : Thread nD τ) none) Set.univ
          (k0_t2_body i arg2 harg2 arg3 harg3 arg4 harg4 arg5 harg5 arg6 harg6 arg7 harg7 arg8 harg8 v5 v8 c0 c1 k v13 v15 n acc)
          (inv2 c arg3 arg4 arg7 K W CR k v5 v13 v15 (n.val + 1)) := by
  unfold k0_t2_body
  obtain ⟨a1, a2, a3⟩ := acc
  simp only [Prog.lift, Prog.bind_op, Prog.bind_ret, Prog.pure_eq_ret]
  unfold inv2
  iintro ⟨%ha, HK, HW, HC⟩
  iapply (load_owned c arg3 K _) $$ HK; iintro HK
  iapply (load_owned c arg4 W _) $$ HW; iintro HW
  iapply (load_owned c arg7 CR _) $$ HC; iintro HC
  rw [wp_ret]; imodintro
  isplitr
  · ipureintro
    rw [stTo_succ, ← ha]; rfl
  isplitl [HK]; · iexact HK
  isplitl [HW]; · iexact HW
  iexact HC

/-- The outer loop's invariant: the rows below `512 k` of the output are done. -/
def inv1 (k : ℕ) (_ : Unit) : sProp 𝕄 :=
  iprop(ins c arg2 arg3 arg4 arg5 arg6 arg7 Q K W G CN CR
    ∗ ∃ X, ⌜∀ y : S4096x128.Idx, (y 0).val < 512 * k → X y = outFn i Q K W G CN CR y⌝ ∗ owns (c : Thread nD τ) arg8 fullShare X)

/-- One trip of the outer loop keeps its invariant. -/
theorem trip1 (k : Fin k0_t1_loop.trips) (u : Unit) :
    inv1 c i arg2 arg3 arg4 arg5 arg6 arg7 arg8 Q K W G CN CR k.val u
      ⊢ wp frame (wpE (defs₀ (F := F)) Variants.none (c : Thread nD τ) none) Set.univ
          (k0_t1_body i arg2 harg2 arg3 harg3 arg4 harg4 arg5 harg5 arg6 harg6 arg7 harg7 arg8 harg8 k u)
          (inv1 c i arg2 arg3 arg4 arg5 arg6 arg7 arg8 Q K W G CN CR (k.val + 1)) := by
  unfold k0_t1_body
  simp only [k0_part1_eq_skeleton]
  unfold k0_part1_skel
  simp only [Prog.lift, Prog.bind_op, Prog.bind_ret, Prog.pure_eq_ret, Prog.bind_assoc]
  unfold inv1 ins
  iintro ⟨⟨HQ, HK, HW, HG, HN, HC⟩, %X, %hX, HO⟩
  iapply (load_owned c arg2 Q _) $$ HQ; iintro HQ
  iapply (load_owned c arg6 CN _) $$ HN; iintro HN
  iapply (Scf.wp_for_bind frame (wpE (defs₀ (F := F)) Variants.none c none) Set.univ _ _ _ (k0_t2_ok k) _ _
    (inv2 c arg3 arg4 arg7 K W CR k _ _ _) (trip2 c i arg2 harg2 arg3 harg3 arg4 harg4 arg5 harg5 arg6 harg6 arg7 harg7 arg8 harg8 K W CR k _ _ _ _ _ _)) $$ [HK HW HC]
  · unfold inv2
    isplitr; · ipureintro; rfl
    isplitl [HK]; · iexact HK
    isplitl [HW]; · iexact HW
    iexact HC
  iintro %s Hinv
  unfold inv2; icases Hinv with ⟨%hs, HK, HW, HC⟩
  subst hs
  -- the second inner loop has no trip: the carried values pass through
  iapply (Scf.wp_for_bind frame (wpE (defs₀ (F := F)) Variants.none c none) Set.univ _ _ _ (k0_t3_ok k) _ _
    (fun _ acc => iprop(⌜acc = stEnd i Q K W CN CR k⌝ : sProp 𝕄)) (fun n => absurd n.isLt (by have := trips3 k; show ¬ n.val < _; unfold Scf.Loop.trips at this; omega)))
  · ipureintro; rfl
  iintro %s %hs
  subst hs
  iapply (load_owned c arg3 K _) $$ HK; iintro HK
  iapply (load_owned c arg4 W _) $$ HW; iintro HW
  iapply (load_owned c arg7 CR _) $$ HC; iintro HC
  iapply (load_owned c arg5 G _) $$ HG; iintro HG
  iapply (load_owned c arg8 X _) $$ HO; iintro HO
  iapply (store_owned c arg8 X _) $$ HO; iintro HO
  rw [wp_ret]; imodintro
  isplitr [HO]
  · isplitl [HQ]; · iexact HQ
    isplitl [HK]; · iexact HK
    isplitl [HW]; · iexact HW
    isplitl [HG]; · iexact HG
    isplitl [HN]; · iexact HN
    iexact HC
  iexists _; isplitr
  swap; · iexact HO
  ipureintro
  intro y hy
  by_cases hm : y ∈ (Rect.unit (s := S4096x128) (k0_off1 k) S512x128.size (k0_off1_inb k)).set
  · obtain ⟨j, rfl⟩ : ∃ j, (Rect.unit (s := S4096x128) (k0_off1 k) S512x128.size (k0_off1_inb k)).emb j = y := by
      rw [← Rect.map_emb_univ] at hm; simpa using hm
    refine (Rect.overlay_emb _ _ _ j).trans ?_
    unfold outFn
    rw [tileOf_emb, inTile_emb]; rfl
  · refine (Rect.overlay_of_not_mem _ _ _ hm).trans (hX y ?_)
    rcases mem_or_lt k y hy with ⟨j, rfl⟩ | h
    · exact absurd (by rw [← Rect.map_emb_univ]; simp) hm
    · exact h

/-- The body at a grid point: from the blocks held and the output's buffer at anything, the blocks are kept and the
    output's buffer holds `outFn`. -/
theorem body (R : PUnit → sProp 𝕄) :
    iprop(ins c arg2 arg3 arg4 arg5 arg6 arg7 Q K W G CN CR ∗ (∃ X, owns (c : Thread nD τ) arg8 fullShare X)
        ∗ (ins c arg2 arg3 arg4 arg5 arg6 arg7 Q K W G CN CR ∗ owns (c : Thread nD τ) arg8 fullShare (outFn i Q K W G CN CR) -∗ R ⟨⟩))
      ⊢ wp frame (wpE (defs₀ (F := F)) Variants.none (c : Thread nD τ) none) Set.univ
          (cc0__fox_attn_kernel i arg2 harg2 arg3 harg3 arg4 harg4 arg5 harg5 arg6 harg6 arg7 harg7 arg8 harg8) R := by
  simp only [cc0__fox_attn_kernel_eq_skeleton]
  unfold cc0__fox_attn_kernel_skel
  iintro ⟨HI, ⟨%X, HO⟩, HR⟩
  iapply (Scf.wp_for_bind frame (wpE (defs₀ (F := F)) Variants.none c none) Set.univ _ _ _ k0_t1_ok _ _
    (inv1 c i arg2 arg3 arg4 arg5 arg6 arg7 arg8 Q K W G CN CR) (trip1 c i arg2 harg2 arg3 harg3 arg4 harg4 arg5 harg5 arg6 harg6 arg7 harg7 arg8 harg8 Q K W G CN CR)) $$ [HI HO]
  · unfold inv1
    isplitl [HI]; · iexact HI
    iexists X; isplitr
    · ipureintro; intro y hy; exact absurd hy (by omega)
    iexact HO
  iintro %u Hinv
  unfold inv1; icases Hinv with ⟨HI, %X', %hX, HO⟩
  have e : X' = outFn i Q K W G CN CR := funext fun y => hX y (by
    have h8 : Scf.trips k0_t1_loop.lb k0_t1_loop.ub k0_t1_loop.st = 8 := trips1
    rw [h8]; exact (y 0).isLt)
  subst e
  rw [Prog.pure_eq_ret, wp_ret]; imodintro
  iapply HR
  isplitl [HI]; · iexact HI
  iexact HO

end

end Cert.Proof.AttnIdeal

end
-- ==== Proof.AttnIdeal.Run.lean ====
/-
  The attention call as a run: at every grid point the windows' blocks feed the body (Body.lean) and the output's block
  is `outFn` of them. From that: the frame claim, and what the result array ends as (`final`).
-/
module

public import proofs.«01_k».proof.Proof.AttnIdeal.Body
public import Idealize.ShloMosaic.Lib.Claim

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's block at point `t`: `outFn` of the input windows' blocks there. -/
def outAt (c : Dev nD) (t : Fin cfg0.N) : Vec F S4096x128 .bf16 :=
  outFn (grid0.coords t) (iblk m c 0 t) (iblk m c 1 t) (iblk m c 2 t) (iblk m c 3 t) (iblk m c 4 t) (iblk m c 5 t)

/-- The proof data of the pipeline on core `c`: the arrays as the region finds them; after the body each input's
    buffer at its block and the output's at `outAt`; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Every input's staging buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point, from the point's blocks to `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid0.coords t) (st0_0 t) _ (st0_1 t) _ (st0_2 t) _ (st0_3 t) _ (st0_4 t) _ (st0_5 t) _ (st0_6 t) _ (iblk m c 0 t) (iblk m c 1 t) (iblk m c 2 t) (iblk m c 3 t) (iblk m c 4 t) (iblk m c 5 t) _)
  unfold ins
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  iintro ⟨⟨H0, H1, H2, H3, H4, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution terminates with every array at what the proof data compute and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates, the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.AttnIdeal

end
-- ==== Proof.Softmax.lean ====
/-
  Softmax over the extended reals, taken tile by tile. For logits `L` (none of them `⊤`) and values `v`:
  the running maximum, denominator and numerator of a prefix, how a further tile changes them, and what the quotient
  of numerator by denominator is.
-/
module

public import Idealize.ShloMosaic.PureOps.Ideal
public import Idealize.ShloMosaic.Lib.Pointwise
public import Idealize.ShloMosaic.Lib.WordCmp

@[expose] public section

noncomputable section

namespace Cert.Proof.Softmax

open Idealize.ShloMosaic Idealize.ShloMosaic.WordCmp

/-- The constant `0xFF800000` of the 32-bit format is `-∞`. -/
theorem ofBits_negInf : Ideal.ofBits .f32 0xFF800000#32 = ⊥ := by
  show Ideal.ieee 8 23 0xFF800000#32 = ⊥
  unfold Ideal.ieee
  simp only [show ((0xFF800000#32 : BitVec 32).extractLsb' (8 + 23) 1 == 1#1) = true from by decide,
    show ((0xFF800000#32 : BitVec 32).extractLsb' 23 8).toNat = 255 from by decide,
    show ((0xFF800000#32 : BitVec 32).extractLsb' 0 23).toNat = 0 from by decide]
  norm_num

/-- A selection on the signed comparison of two small indices is the `if` on their order. -/
theorem select_sle {α : Type} {a b : ℕ} (ha : a < 2 ^ (32 - 1)) (hb : b < 2 ^ (32 - 1)) (x y : α) :
    Scalar.select (IntOp.cmpi .sle (BitVec.ofNat 32 a) (BitVec.ofNat 32 b)) x y = if a ≤ b then x else y := by
  rw [cmpi_sle_ofNat ha hb]
  unfold Scalar.select
  by_cases h : a ≤ b <;> simp [h]

/-- A selection on the equality of two small indices is the `if` on their equality. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [cmpi_eq_ofNat ha hb]
  unfold Scalar.select
  by_cases h : a = b <;> simp [h]

/-- The exponential is nonnegative. -/
theorem exp_nonneg (x : EReal) : 0 ≤ Ideal.exp x := by
  induction x with
  | bot => exact le_refl _
  | top => exact le_top
  | coe r => exact EReal.coe_nonneg.mpr (Real.exp_pos r).le

/-- The exponential is finite except at `⊤`. -/
theorem exp_ne_top (x : EReal) (h : x ≠ ⊤) : Ideal.exp x ≠ ⊤ := by
  induction x with
  | bot => exact EReal.zero_ne_top
  | top => exact absurd rfl h
  | coe r => exact EReal.coe_ne_top _

/-- The exponential is positive except at `⊥`. -/
theorem exp_pos (x : EReal) (h : x ≠ ⊥) : 0 < Ideal.exp x := by
  induction x with
  | bot => exact absurd rfl h
  | top => exact EReal.zero_lt_top
  | coe r => exact EReal.coe_pos.mpr (Real.exp_pos r)

theorem bot_sub (x : EReal) : (⊥ : EReal) - x = ⊥ := EReal.bot_sub x

/-- The difference of a logit and a finite-or-larger maximum it does not exceed is not `⊤`. -/
theorem sub_ne_top {x m : EReal} (hx : x ≠ ⊤) (h : x ≤ m) : x - m ≠ ⊤ := by
  induction x with
  | top => exact absurd rfl hx
  | bot => rw [bot_sub]; exact bot_ne_top
  | coe r =>
    induction m with
    | bot => exact absurd (le_bot_iff.mp h) (EReal.coe_ne_bot r)
    | top => rw [EReal.sub_top]; exact bot_ne_top
    | coe s => rw [← EReal.coe_sub]; exact EReal.coe_ne_top _

/-- Moving the reference point of an exponential from `m` up to `m'`. -/
theorem exp_shift {x m m' : EReal} (hxm : x ≤ m) (hmm : m ≤ m') (hm' : m' ≠ ⊤) :
    Ideal.exp (m - m') * Ideal.exp (x - m) = Ideal.exp (x - m') := by
  induction m with
  | bot =>
    rw [le_bot_iff.mp hxm, bot_sub, bot_sub]
    show (0 : EReal) * 0 = 0
    exact zero_mul 0
  | top => exact absurd (top_le_iff.mp hmm) hm'
  | coe a =>
    induction m' with
    | bot => exact absurd (le_bot_iff.mp hmm) (EReal.coe_ne_bot a)
    | top => exact absurd rfl hm'
    | coe b =>
      induction x with
      | bot =>
        rw [bot_sub, bot_sub]
        show _ * (0 : EReal) = 0
        exact mul_zero _
      | top => exact absurd (top_le_iff.mp hxm) (EReal.coe_ne_top a)
      | coe r =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-- A nonnegative finite factor goes into a finite sum. -/
theorem mul_sum {ι : Type*} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 h1, ih]

/-- The maximum of the first `n` logits. -/
abbrev mx (L : ℕ → EReal) (n : ℕ) : EReal := (Finset.range n).sup L
/-- The denominator over the first `n` logits. -/
abbrev den (L : ℕ → EReal) (n : ℕ) : EReal := ∑ j ∈ Finset.range n, Ideal.exp (L j - mx L n)
/-- The numerator over the first `n` logits. -/
abbrev num (L v : ℕ → EReal) (n : ℕ) : EReal := ∑ j ∈ Finset.range n, Ideal.exp (L j - mx L n) * v j

theorem mx_ne_top (L : ℕ → EReal) (hL : ∀ j, L j ≠ ⊤) (n : ℕ) : mx L n ≠ ⊤ :=
  ((Finset.sup_lt_iff bot_lt_top).mpr fun j _ => lt_top_iff_ne_top.mpr (hL j)).ne

/-- The maximum over a tile, as the fold a reduction makes. -/
theorem fold_eq_sup {n : ℕ} (f : Fin n → EReal) : Finset.univ.fold max ⊥ f = Finset.univ.sup f := rfl

theorem sup_fin_eq (f : ℕ → EReal) (n : ℕ) : (Finset.univ.sup fun i : Fin n => f i.val) = (Finset.range n).sup f := by
  apply le_antisymm
  · exact Finset.sup_le fun i _ => Finset.le_sup (f := f) (Finset.mem_range.mpr i.isLt)
  · exact Finset.sup_le fun j hj =>
      Finset.le_sup (f := fun i : Fin n => f i.val) (Finset.mem_univ (⟨j, Finset.mem_range.mp hj⟩ : Fin n))

/-- The maximum over `n + t` logits is that over the first `n` and that over the following `t`. -/
theorem mx_add (L : ℕ → EReal) (n t : ℕ) :
    mx L (n + t) = max (mx L n) (Finset.univ.fold max ⊥ fun i : Fin t => L (n + i.val)) := by
  rw [fold_eq_sup, sup_fin_eq (fun i => L (n + i))]
  apply le_antisymm
  · refine Finset.sup_le fun j hj => ?_
    rw [Finset.mem_range] at hj
    by_cases h : j < n
    · exact le_max_of_le_left (Finset.le_sup (f := L) (Finset.mem_range.mpr h))
    · refine le_max_of_le_right ?_
      have := Finset.le_sup (f := fun i => L (n + i)) (s := Finset.range t) (b := j - n) (Finset.mem_range.mpr (by omega))
      simpa [Nat.add_sub_cancel' (Nat.le_of_not_lt h)] using this
  · refine max_le (Finset.sup_mono (Finset.range_mono (by omega))) (Finset.sup_le fun j hj => ?_)
    rw [Finset.mem_range] at hj
    exact Finset.le_sup (f := L) (Finset.mem_range.mpr (by omega))

/-- A prefix's terms, moved to the longer prefix's maximum. -/
theorem shift_sum (L w : ℕ → EReal) (hL : ∀ j, L j ≠ ⊤) (n t : ℕ) :
    Ideal.exp (mx L n - mx L (n + t)) * ∑ j ∈ Finset.range n, Ideal.exp (L j - mx L n) * w j
      = ∑ j ∈ Finset.range n, Ideal.exp (L j - mx L (n + t)) * w j := by
  have hle : mx L n ≤ mx L (n + t) := Finset.sup_mono (Finset.range_mono (by omega))
  rw [mul_sum _ _ (exp_nonneg _) (exp_ne_top _ (sub_ne_top (mx_ne_top L hL n) hle))]
  refine Finset.sum_congr rfl fun j hj => ?_
  rw [← mul_assoc, exp_shift (Finset.le_sup (f := L) hj) hle (mx_ne_top L hL _)]

/-- A further tile: the numerator. -/
theorem num_add (L v : ℕ → EReal) (hL : ∀ j, L j ≠ ⊤) (n t : ℕ) :
    num L v (n + t) = Ideal.exp (mx L n - mx L (n + t)) * num L v n
      + ∑ i : Fin t, Ideal.exp (L (n + i.val) - mx L (n + t)) * v (n + i.val) := by
  rw [shift_sum L v hL]
  show ∑ j ∈ Finset.range (n + t), _ = _
  rw [Finset.sum_range_add, Fin.sum_univ_eq_sum_range (fun i => Ideal.exp (L (n + i) - mx L (n + t)) * v (n + i))]

/-- A further tile: the denominator. -/
theorem den_add (L : ℕ → EReal) (hL : ∀ j, L j ≠ ⊤) (n t : ℕ) :
    den L (n + t) = Ideal.exp (mx L n - mx L (n + t)) * den L n
      + ∑ i : Fin t, Ideal.exp (L (n + i.val) - mx L (n + t)) := by
  have := num_add L (fun _ => 1) hL n t
  simpa only [num, mul_one] using this

/-- Logits at `⊥` past `n` change nothing: the maximum. -/
theorem mx_pad (L : ℕ → EReal) (n N : ℕ) (h : n ≤ N) (hb : ∀ j, n ≤ j → L j = ⊥) : mx L N = mx L n := by
  apply le_antisymm
  · refine Finset.sup_le fun j _ => ?_
    by_cases hj : j < n
    · exact Finset.le_sup (f := L) (Finset.mem_range.mpr hj)
    · rw [hb j (Nat.le_of_not_lt hj)]; exact bot_le
  · exact Finset.sup_mono (Finset.range_mono h)

/-- … and sums weighted by the exponentials. -/
theorem num_pad (L v : ℕ → EReal) (n N : ℕ) (h : n ≤ N) (hb : ∀ j, n ≤ j → L j = ⊥) : num L v N = num L v n := by
  show ∑ j ∈ Finset.range N, Ideal.exp (L j - mx L N) * v j = _
  rw [mx_pad L n N h hb]
  refine (Finset.sum_subset (Finset.range_mono h) fun j _ hj => ?_).symm
  rw [hb j (Nat.le_of_not_lt fun h' => hj (Finset.mem_range.mpr h')), bot_sub]
  exact zero_mul _

theorem den_pad (L : ℕ → EReal) (n N : ℕ) (h : n ≤ N) (hb : ∀ j, n ≤ j → L j = ⊥) : den L N = den L n := by
  have := num_pad L (fun _ => 1) n N h hb
  simpa only [num, mul_one] using this

/-- The denominator is finite. -/
theorem den_ne_top (L : ℕ → EReal) (hL : ∀ j, L j ≠ ⊤) (n : ℕ) : den L n ≠ ⊤ := by
  have h : ∀ s : Finset ℕ, (∀ j ∈ s, L j ≤ mx L n) → ∑ j ∈ s, Ideal.exp (L j - mx L n) ≠ ⊤ := by
    intro s
    induction s using Finset.induction_on with
    | empty => intro _; simp
    | insert a s ha ih =>
      intro hs
      rw [Finset.sum_insert ha]
      exact (EReal.add_lt_top (exp_ne_top _ (sub_ne_top (hL a) (hs a (Finset.mem_insert_self a s))))
        (ih fun j hj => hs j (Finset.mem_insert_of_mem hj))).ne
  exact h _ fun j hj => Finset.le_sup (f := L) hj

/-- The denominator is positive once one logit is finite. -/
theorem den_pos (L : ℕ → EReal) (hL : ∀ j, L j ≠ ⊤) (n j₀ : ℕ) (hj : j₀ < n) (hb : L j₀ ≠ ⊥) : 0 < den L n := by
  refine lt_of_lt_of_le ?_ (Finset.single_le_sum (f := fun j => Ideal.exp (L j - mx L n)) (fun j _ => exp_nonneg _) (Finset.mem_range.mpr hj))
  refine exp_pos _ ?_
  have hm := mx_ne_top L hL n
  have hle : L j₀ ≤ mx L n := Finset.le_sup (f := L) (Finset.mem_range.mpr hj)
  revert hm hle
  generalize mx L n = M
  intro hm hle
  have h0 := hL j₀
  generalize L j₀ = x at *
  induction x with
  | bot => exact absurd rfl hb
  | top => exact absurd rfl h0
  | coe r =>
    induction M with
    | bot => exact absurd (le_bot_iff.mp hle) (EReal.coe_ne_bot r)
    | top => exact absurd rfl hm
    | coe s => rw [← EReal.coe_sub]; exact EReal.coe_ne_bot _

/-- Dividing the weighted sum by the denominator is weighting by the quotients. -/
theorem div_sum (L v : ℕ → EReal) (hL : ∀ j, L j ≠ ⊤) (n j₀ : ℕ) (hj : j₀ < n) (hb : L j₀ ≠ ⊥) :
    Ideal.div (num L v n) (den L n) = ∑ j ∈ Finset.range n, Ideal.div (Ideal.exp (L j - mx L n)) (den L n) * v j := by
  have hp := den_pos L hL n j₀ hj hb
  have ht := den_ne_top L hL n
  generalize den L n = d at hp ht ⊢
  have hd : d ≠ 0 := hp.ne'
  simp only [Ideal.div, if_neg hd]
  rw [mul_comm, mul_sum _ _ (EReal.inv_nonneg_of_nonneg hp.le) ?_]
  · refine Finset.sum_congr rfl fun j _ => ?_
    rw [← mul_assoc, mul_comm d⁻¹]
  · induction d with
    | bot => exact absurd hp (not_lt_bot)
    | top => exact absurd rfl ht
    | coe r => rw [← EReal.coe_inv]; exact EReal.coe_ne_top _

end Cert.Proof.Softmax

end
-- ==== Proof.AttnIdeal.Pays.lean ====
/-
  The attention body's vector expressions read at an index, over the extended reals.
-/
module

public import proofs.«01_k».proof.Proof.AttnIdeal.Body
public import proofs.«01_k».proof.Proof.Softmax

@[expose] public section

set_option maxRecDepth 16384

noncomputable section

namespace Cert.Proof.AttnIdeal

open Cert.AttnIdeal Cert.AttnIdeal.Gen
open Idealize.ShloMosaic Idealize.ShloMosaic.TcCoe
open Cert.Proof.Softmax

variable (v5 : FVec Ideal S1x32 .f32) (q kk vv : FVec Ideal S512x128 .bf16) (cn : FVec Ideal S512x32 .f32)
  (cr : FVec Ideal S1x1x1x1x512 .f32) (mm ll : FVec Ideal S512x1 .f32) (aa : FVec Ideal S512x128 .f32)

/-- A logit of the tile: the product of the query's and the key's rows, and the difference of their gates. -/
theorem pay8_at (a b : Fin 512) : k0_pay8 v5 q cn kk cr (ix2 a b)
    = (∑ e : Fin 128, q (ix2 a e) * kk (ix2 b e)) + ((∑ h : Fin 32, cn (ix2 a h) * v5 (ix2 0 h)) - cr (ix5 0 0 0 0 b)) := by
  pointwise [k0_pay8, k0_pay4]

theorem pay9_at (a : Fin 512) : k0_pay9 v5 q cn mm kk cr (ix2 a 0)
    = max (mm (ix2 a 0)) (Finset.univ.fold max ⊥ fun b : Fin 512 => k0_pay8 v5 q cn kk cr (ix2 a b)) := by
  pointwise [k0_pay9]
  rw [ofBits_negInf]

theorem pay12_at (a : Fin 512) : k0_pay12 v5 q cn mm ll kk cr (ix2 a 0)
    = Ideal.exp (mm (ix2 a 0) - k0_pay9 v5 q cn mm kk cr (ix2 a 0)) * ll (ix2 a 0)
      + ∑ b : Fin 512, Ideal.exp (k0_pay8 v5 q cn kk cr (ix2 a b) - k0_pay9 v5 q cn mm kk cr (ix2 a 0)) := by
  pointwise [k0_pay12, k0_pay11, k0_pay10]

theorem pay13_at (a : Fin 512) (d : Fin 128) : k0_pay13 v5 q cn mm aa kk vv cr (ix2 a d)
    = Ideal.exp (mm (ix2 a 0) - k0_pay9 v5 q cn mm kk cr (ix2 a 0)) * aa (ix2 a d)
      + ∑ b : Fin 512, Ideal.exp (k0_pay8 v5 q cn kk cr (ix2 a b) - k0_pay9 v5 q cn mm kk cr (ix2 a 0)) * vv (ix2 b d) := by
  pointwise [k0_pay13, k0_pay11, k0_pay10]

theorem pay20_at (a b : Fin 512) : k0_pay20 v5 k0_pay2 q cn kk cr (ix2 a b)
    = if b.val ≤ a.val then k0_pay8 v5 q cn kk cr (ix2 a b) else ⊥ := by
  pointwise [k0_pay20, k0_pay2, k0_pay8, k0_pay4]
  rw [ofBits_negInf]
  exact select_sle (by omega) (by omega) _ _

theorem pay21_at (a : Fin 512) : k0_pay21 v5 k0_pay2 q cn kk cr (ix2 a 0)
    = Finset.univ.fold max ⊥ fun b : Fin 512 => k0_pay20 v5 k0_pay2 q cn kk cr (ix2 a b) := by
  pointwise [k0_pay21]
  rw [ofBits_negInf]

theorem pay3_at (s : FVec Ideal S512x512 .f32) (m2 : FVec Ideal S512x1 .f32) (g : FVec Ideal S512x128 .bf16) (a : Fin 512) (d : Fin 128) :
    k0_pay3 mm ll aa vv s m2 g (ix2 a d)
    = Ideal.div (Ideal.exp (mm (ix2 a 0) - max (mm (ix2 a 0)) (m2 (ix2 a 0))) * aa (ix2 a d)
          + ∑ b : Fin 512, Ideal.exp (s (ix2 a b) - max (mm (ix2 a 0)) (m2 (ix2 a 0))) * vv (ix2 b d))
        (Ideal.exp (mm (ix2 a 0) - max (mm (ix2 a 0)) (m2 (ix2 a 0))) * ll (ix2 a 0)
          + ∑ b : Fin 512, Ideal.exp (s (ix2 a b) - max (mm (ix2 a 0)) (m2 (ix2 a 0))))
      * Ideal.div (1 : EReal) ((1 : EReal) + Ideal.exp ((0 : EReal) - g (ix2 a d))) := by
  pointwise [k0_pay3]

end Cert.Proof.AttnIdeal

end
-- ==== Proof.AttnIdeal.Tiles.lean ====
/-
  What the attention body leaves in its block, over the extended reals: at row `r` and column `d`, the softmax of the
  row's causal logits weighting the values, times the gate's logistic. The inner loop's carried values are the maximum,
  the denominator and the numerator of the keys seen so far (Softmax.lean).
-/
module

public import proofs.«01_k».proof.Proof.AttnIdeal.Pays

@[expose] public section

set_option maxRecDepth 16384

noncomputable section

namespace Cert.Proof.AttnIdeal

open Cert.AttnIdeal Cert.AttnIdeal.Gen
open Idealize.ShloMosaic Idealize.ShloMosaic.TcCoe
open Cert.Proof.Softmax

/-- The head's gate row: the sum over the heads with the head's indicator keeps that head's entry. -/
theorem pay1_at (i : grid0.Coords) (h : Fin 32) : k0_pay1 (F := Ideal) i (ix2 0 h) = if h.val = (i 1).val then (1 : EReal) else 0 := by
  pointwise [k0_pay1]
  exact select_eq (by omega) (lt_of_lt_of_le (i 1).isLt (by decide)) _ _

theorem gate_sum (i : grid0.Coords) (f : Fin 32 → EReal) :
    ∑ h : Fin 32, f h * k0_pay1 (F := Ideal) i (ix2 0 h) = f ⟨(i 1).val, (i 1).isLt⟩ := by
  rw [Finset.sum_eq_single (⟨(i 1).val, (i 1).isLt⟩ : Fin 32)]
  · rw [pay1_at, if_pos rfl, mul_one]
  · intro h _ hne
    rw [pay1_at, if_neg fun e => hne (Fin.ext e), mul_zero]
  · intro h; exact absurd (Finset.mem_univ _) h

variable (i : grid0.Coords) (Q K W G : FVec Ideal S4096x128 .bf16) (CN : FVec Ideal S4096x32 .f32) (CR : FVec Ideal S1x1x8x1x512 .f32)

/-- The logit of query row `r` against key row `j`. -/
def sc (r j : Fin 4096) : EReal :=
  (∑ e : Fin 128, Q (ix2 r e) * K (ix2 j e))
    + (CN (ix2 r ⟨(i 1).val, (i 1).isLt⟩) - CR (ix5 0 0 ⟨j.val / 512, by omega⟩ 0 ⟨j.val % 512, by omega⟩))

/-- The causal logits of row `r`: `⊥` past the diagonal. -/
def lg (r : Fin 4096) (j : ℕ) : EReal :=
  if h : j < 4096 then (if j ≤ r.val then sc i Q K CN CR r ⟨j, h⟩ else ⊥) else ⊥

/-- The values' column `d`. -/
def vl (d : Fin 128) (j : ℕ) : EReal := if h : j < 4096 then W (ix2 ⟨j, h⟩ d) else 0

variable (k : Fin k0_t1_loop.trips)

/-- Row `a` of tile `k`. -/
abbrev rowOf (a : Fin 512) : Fin 4096 := ⟨512 * k.val + a.val, by have := lt_of_lt_of_eq k.isLt trips1; omega⟩

theorem at1_at (X : FVec Ideal S4096x128 .bf16) (a : Fin 512) (e : Fin 128) : at1 (F := Ideal) X k (ix2 a e) = X (ix2 (rowOf k a) e) := by
  show X _ = _
  congr 1
  funext x
  match x with
  | ⟨0, _⟩ => exact Fin.ext (emb1_val0 k (ix2 a e))
  | ⟨1, _⟩ => exact Fin.ext (emb1_val1 k (ix2 a e))

theorem at2_at (X : FVec Ideal S4096x32 .f32) (a : Fin 512) (e : Fin 32) : at2 (F := Ideal) X k (ix2 a e) = X (ix2 (rowOf k a) e) := by
  show X _ = _
  congr 1
  funext x
  match x with
  | ⟨0, _⟩ =>
    apply Fin.ext
    show (k0_off2 k) 0 + 1 * a.val = 512 * k.val + a.val
    rw [k0_off2_eq, Nat.one_mul]; rfl
  | ⟨1, _⟩ =>
    apply Fin.ext
    show (k0_off2 k) 1 + 1 * e.val = e.val
    rw [k0_off2_eq, Nat.one_mul]; exact Nat.zero_add _

theorem at3_at (X : FVec Ideal S4096x128 .bf16) (n : Fin (k0_t2_loop k).trips) (hn : n.val < 8) (b : Fin 512) (e : Fin 128) :
    at3 (F := Ideal) X k n (ix2 b e) = X (ix2 ⟨512 * n.val + b.val, by omega⟩ e) := by
  show X _ = _
  congr 1
  funext x
  match x with
  | ⟨0, _⟩ =>
    apply Fin.ext
    show (k0_off3 k n) 0 + 1 * b.val = 512 * n.val + b.val
    rw [k0_off3_eq, Nat.one_mul]; rfl
  | ⟨1, _⟩ =>
    apply Fin.ext
    show (k0_off3 k n) 1 + 1 * e.val = e.val
    rw [k0_off3_eq, Nat.one_mul]; exact Nat.zero_add _

theorem at4_at (X : FVec Ideal S1x1x8x1x512 .f32) (n : Fin (k0_t2_loop k).trips) (hn : n.val < 8) (b : Fin 512) :
    at4 (F := Ideal) X k n (ix5 0 0 0 0 b) = X (ix5 0 0 ⟨n.val, hn⟩ 0 b) := by
  show X _ = _
  congr 1
  funext x
  match x with
  | ⟨0, _⟩ => apply Fin.ext; show (k0_off4 k n) 0 + 1 * 0 = 0; rw [k0_off4_eq]; rfl
  | ⟨1, _⟩ => apply Fin.ext; show (k0_off4 k n) 1 + 1 * 0 = 0; rw [k0_off4_eq]; rfl
  | ⟨2, _⟩ => apply Fin.ext; show (k0_off4 k n) 2 + 1 * 0 = n.val; rw [k0_off4_eq]; rfl
  | ⟨3, _⟩ => apply Fin.ext; show (k0_off4 k n) 3 + 1 * 0 = 0; rw [k0_off4_eq]; rfl
  | ⟨4, _⟩ => apply Fin.ext; show (k0_off4 k n) 4 + 1 * b.val = b.val; rw [k0_off4_eq, Nat.one_mul]; exact Nat.zero_add _

theorem at7_at (X : FVec Ideal S1x1x8x1x512 .f32) (hk : k.val < 8) (b : Fin 512) :
    at7 (F := Ideal) X k (ix5 0 0 0 0 b) = X (ix5 0 0 ⟨k.val, hk⟩ 0 b) := by
  show X _ = _
  congr 1
  funext x
  match x with
  | ⟨0, _⟩ => apply Fin.ext; show (k0_off7 k) 0 + 1 * 0 = 0; rw [k0_off7_eq]; rfl
  | ⟨1, _⟩ => apply Fin.ext; show (k0_off7 k) 1 + 1 * 0 = 0; rw [k0_off7_eq]; rfl
  | ⟨2, _⟩ => apply Fin.ext; show (k0_off7 k) 2 + 1 * 0 = k.val; rw [k0_off7_eq]; rfl
  | ⟨3, _⟩ => apply Fin.ext; show (k0_off7 k) 3 + 1 * 0 = 0; rw [k0_off7_eq]; rfl
  | ⟨4, _⟩ => apply Fin.ext; show (k0_off7 k) 4 + 1 * b.val = b.val; rw [k0_off7_eq, Nat.one_mul]; exact Nat.zero_add _

/-- The logits of an earlier tile. -/
theorem pay8_tile (n : Fin (k0_t2_loop k).trips) (a b : Fin 512) :
    k0_pay8 (k0_pay1 i) (at1 (F := Ideal) Q k) (at2 (F := Ideal) CN k) (at3 (F := Ideal) K k n) (at4 (F := Ideal) CR k n) (ix2 a b) = lg i Q K CN CR (rowOf k a) (512 * n.val + b.val) := by
  have hk := lt_of_lt_of_eq k.isLt trips1
  have hn : n.val < k.val := lt_of_lt_of_eq n.isLt (trips2 k)
  have ha := a.isLt
  have hb := b.isLt
  have e1 : (512 * n.val + b.val) / 512 = n.val := by omega
  have e2 : (512 * n.val + b.val) % 512 = b.val := by omega
  rw [pay8_at, gate_sum i (fun h => at2 (F := Ideal) CN k (ix2 a h)), at2_at, at4_at k CR n (by omega), lg, dif_pos (by omega : 512 * n.val + b.val < 4096),
    if_pos (by show 512 * n.val + b.val ≤ 512 * k.val + a.val; omega), sc]
  simp only [e1, e2]
  congr 1
  exact Finset.sum_congr rfl fun e _ => by rw [at1_at, at3_at k K n (by omega)]

/-- The logits of the diagonal tile. -/
theorem pay20_tile (a b : Fin 512) :
    k0_pay20 (k0_pay1 i) k0_pay2 (at1 (F := Ideal) Q k) (at2 (F := Ideal) CN k) (at1 (F := Ideal) K k) (at7 (F := Ideal) CR k) (ix2 a b) = lg i Q K CN CR (rowOf k a) (512 * k.val + b.val) := by
  have hk := lt_of_lt_of_eq k.isLt trips1
  have ha := a.isLt
  have hb := b.isLt
  have e1 : (512 * k.val + b.val) / 512 = k.val := by omega
  have e2 : (512 * k.val + b.val) % 512 = b.val := by omega
  rw [pay20_at, lg, dif_pos (by omega : 512 * k.val + b.val < 4096)]
  by_cases h : b.val ≤ a.val
  · rw [if_pos h, if_pos (by show 512 * k.val + b.val ≤ 512 * k.val + a.val; omega), pay8_at, gate_sum i (fun h => at2 (F := Ideal) CN k (ix2 a h)), at2_at,
      at7_at k CR hk, sc]
    simp only [e1, e2]
    congr 1
    exact Finset.sum_congr rfl fun e _ => by rw [at1_at, at1_at]
  · rw [if_neg h, if_neg (by show ¬ 512 * k.val + b.val ≤ 512 * k.val + a.val; omega)]

/-- No logit is `⊤` when the scores are finite. -/
theorem lg_ne_top (r : Fin 4096) (hs : ∀ j, sc i Q K CN CR r j ≠ ⊤) (j : ℕ) : lg i Q K CN CR r j ≠ ⊤ := by
  unfold lg
  split_ifs
  · exact hs _
  · exact bot_ne_top
  · exact bot_ne_top

/-- The inner loop's carried values before trip `n`: the maximum, denominator and numerator of the first `512 n` keys. -/
theorem stTo_at (a : Fin 512) (d : Fin 128) (hs : ∀ j, sc i Q K CN CR (rowOf k a) j ≠ ⊤) : ∀ n : ℕ, n ≤ k.val →
    (stTo (F := Ideal) (k0_pay1 i) K W CR k (at1 (F := Ideal) Q k) (at2 (F := Ideal) CN k) n).1 (ix2 a 0) = mx (lg i Q K CN CR (rowOf k a)) (512 * n)
    ∧ (stTo (F := Ideal) (k0_pay1 i) K W CR k (at1 (F := Ideal) Q k) (at2 (F := Ideal) CN k) n).2.1 (ix2 a 0) = den (lg i Q K CN CR (rowOf k a)) (512 * n)
    ∧ (stTo (F := Ideal) (k0_pay1 i) K W CR k (at1 (F := Ideal) Q k) (at2 (F := Ideal) CN k) n).2.2 (ix2 a d) = num (lg i Q K CN CR (rowOf k a)) (vl W d) (512 * n) := by
  have hL := lg_ne_top i Q K CN CR (rowOf k a) hs
  intro n
  induction n with
  | zero =>
    intro _
    rw [stTo_zero]
    refine ⟨?_, ?_, ?_⟩
    · show Ideal.ofBits .f32 0xFF800000#32 = _
      rw [ofBits_negInf]; rfl
    · pointwise [k0_pay6]; exact (Finset.sum_range_zero _).symm
    · pointwise [k0_pay7]; exact (Finset.sum_range_zero _).symm
  | succ n ih =>
    intro hn
    obtain ⟨h1, h2, h3⟩ := ih (by omega)
    have hk := lt_of_lt_of_eq k.isLt trips1
    have hlt : n < (k0_t2_loop k).trips := lt_of_lt_of_eq hn (trips2 k).symm
    have hst := stTo_succ (F := Ideal) (k0_pay1 i) K W CR k (at1 (F := Ideal) Q k) (at2 (F := Ideal) CN k) ⟨n, hlt⟩
    rw [show n + 1 = (⟨n, hlt⟩ : Fin (k0_t2_loop k).trips).val + 1 from rfl, hst]
    dsimp only
    have hm : k0_pay9 (k0_pay1 i) (at1 (F := Ideal) Q k) (at2 (F := Ideal) CN k) (stTo (F := Ideal) (k0_pay1 i) K W CR k (at1 (F := Ideal) Q k) (at2 (F := Ideal) CN k) n).1 (at3 (F := Ideal) K k ⟨n, hlt⟩) (at4 (F := Ideal) CR k ⟨n, hlt⟩) (ix2 a 0)
        = mx (lg i Q K CN CR (rowOf k a)) (512 * n + 512) := by
      rw [pay9_at, mx_add, h1]
      simp only [pay8_tile]
    rw [show 512 * (n + 1) = 512 * n + 512 from by omega]
    refine ⟨hm, ?_, ?_⟩
    · rw [pay12_at, hm, h1, h2, den_add _ hL]
      simp only [pay8_tile]
    · rw [pay13_at, hm, h1, h3, num_add _ _ hL]
      simp only [pay8_tile]
      congr 1
      refine Finset.sum_congr rfl fun b _ => ?_
      have hb := b.isLt
      rw [at3_at k W ⟨n, hlt⟩ (by show n < 8; omega), vl, dif_pos (by omega : 512 * n + b.val < 4096)]

/-- What trip `k` of the outer loop stores at row `a`, column `d`. -/
theorem tile_at (a : Fin 512) (d : Fin 128) (hs : ∀ j, sc i Q K CN CR (rowOf k a) j ≠ ⊤) :
    tile (F := Ideal) i Q K W G CN CR k (ix2 a d)
      = Ideal.div (num (lg i Q K CN CR (rowOf k a)) (vl W d) 4096) (den (lg i Q K CN CR (rowOf k a)) 4096)
        * Ideal.div (1 : EReal) ((1 : EReal) + Ideal.exp ((0 : EReal) - G (ix2 (rowOf k a) d))) := by
  have hL := lg_ne_top i Q K CN CR (rowOf k a) hs
  have hk := lt_of_lt_of_eq k.isLt trips1
  have hpad : ∀ j, 512 * k.val + 512 ≤ j → lg i Q K CN CR (rowOf k a) j = ⊥ := by
    intro j hj
    have ha := a.isLt
    unfold lg
    split_ifs with h1 h2
    · have h2' : j ≤ 512 * k.val + a.val := h2
      omega
    · rfl
    · rfl
  rw [num_pad _ _ (512 * k.val + 512) 4096 (by omega) hpad, den_pad _ (512 * k.val + 512) 4096 (by omega) hpad, num_add _ _ hL, den_add _ hL]
  obtain ⟨h1, h2, h3⟩ := stTo_at i Q K W CN CR k a d hs k.val le_rfl
  unfold tile stEnd
  rw [pay3_at, pay21_at, trips2 k, h1, h2, h3]
  simp only [pay20_tile]
  rw [← mx_add, at1_at k G]
  congr 3
  refine Finset.sum_congr rfl fun b _ => ?_
  have hb := b.isLt
  rw [at1_at k W, vl, dif_pos (by omega : 512 * k.val + b.val < 4096)]

/-- The block the grid point leaves, at row `r` and column `d`. -/
theorem outFn_at (r : Fin 4096) (d : Fin 128) (hs : ∀ j, sc i Q K CN CR r j ≠ ⊤) :
    outFn (F := Ideal) i Q K W G CN CR (ix2 r d)
      = Ideal.div (num (lg i Q K CN CR r) (vl W d) 4096) (den (lg i Q K CN CR r) 4096)
        * Ideal.div (1 : EReal) ((1 : EReal) + Ideal.exp ((0 : EReal) - G (ix2 r d))) := by
  have hr : rowOf (tileOf (ix2 r d)) ⟨r.val % 512, by omega⟩ = r := Fin.ext (by show 512 * (r.val / 512) + r.val % 512 = r.val; omega)
  have hi : inTile (ix2 r d) = ix2 ⟨r.val % 512, by omega⟩ d := by
    funext x
    match x with
    | ⟨0, _⟩ => rfl
    | ⟨1, _⟩ => rfl
  show tile (F := Ideal) i Q K W G CN CR (tileOf (ix2 r d)) (inTile (ix2 r d)) = _
  rw [hi, tile_at i Q K W G CN CR (tileOf (ix2 r d)) ⟨r.val % 512, by omega⟩ d (by rw [hr]; exact hs), hr]

end Cert.Proof.AttnIdeal

end
-- ==== Proof.AttnRefIdeal.Read.lean ====
/-
  The attention's reference read at an index, over the extended reals, stage by stage: the heads' rows, the logits,
  their causal mask, the softmax, its product with the values, and the gate.
-/
module

public import proofs.«01_k».proof.Proof.Gen.AttnRefIdeal.Run
public import proofs.«01_k».proof.Proof.Softmax

@[expose] public section

set_option maxRecDepth 16384

noncomputable section

namespace Cert.Proof.AttnRefIdeal

open Cert.AttnRefIdeal Cert.AttnRefIdeal.Gen
open Idealize.ShloMosaic Idealize.ShloMosaic.TcCoe
open Cert.Proof.Softmax

variable (X : FVec Ideal S8192x16384 .bf16) (Y : FVec Ideal S8192x32 .f32)

/-- The rows of the four column ranges. -/
def part0 : FVec Ideal S8192x4096 .bf16 := extractStridedSlice S8192x4096 ![0, 0] X slices_S8192x16384_S8192x4096_0_0
def part1 : FVec Ideal S8192x4096 .bf16 := extractStridedSlice S8192x4096 ![0, 4096] X slices_S8192x16384_S8192x4096_0_4096
def part2 : FVec Ideal S8192x4096 .bf16 := extractStridedSlice S8192x4096 ![0, 8192] X slices_S8192x16384_S8192x4096_0_8192
def part3 : FVec Ideal S8192x4096 .bf16 := extractStridedSlice S8192x4096 ![0, 12288] X slices_S8192x16384_S8192x4096_0_12288

/-- One range split into heads. -/
def heads (P : FVec Ideal S8192x4096 .bf16) : FVec Ideal S2x32x4096x128 .f32 :=
  transpose S2x32x4096x128 [0, 2, 1, 3] (shapeCast S2x4096x32x128 (extf .f32 P bitsLt_bf16_f32) shapeCasts_S8192x4096_S2x4096x32x128) transposes_S2x4096x32x128_S2x32x4096x128_0_2_1_3

/-- The cumulative gates by head. -/
def gates : FVec Ideal S2x32x4096 .f32 :=
  transpose S2x32x4096 [0, 2, 1] (shapeCast S2x4096x32 Y shapeCasts_S8192x32_S2x4096x32) transposes_S2x4096x32_S2x32x4096_0_2_1

/-- The logits. -/
def logits (q k : FVec Ideal S2x32x4096x128 .f32) (g : FVec Ideal S2x32x4096 .f32) : FVec Ideal S2x32x4096x4096 .f32 :=
  subf (addf (Host.dotGeneral dot_S2x32x4096x128_S2x32x4096x128_S2x32x4096x4096_3_3_2_2_01_01 none q k)
    (broadcastInDim S2x32x4096x4096 ![0, 1, 2, 3] bcast_S2x32x4096x1_S2x32x4096x4096_0_1_2_3 (broadcastInDim S2x32x4096x1 ![0, 1, 2] bcast_S2x32x4096_S2x32x4096x1_0_1_2 g)))
    (broadcastInDim S2x32x4096x4096 ![0, 1, 2, 3] bcast_S2x32x1x4096_S2x32x4096x4096_0_1_2_3 (broadcastInDim S2x32x1x4096 ![0, 1, 3] bcast_S2x32x4096_S2x32x1x4096_0_1_3 g))

/-- The causal mask over the logits. -/
def masked (l : FVec Ideal S2x32x4096x4096 .f32) : FVec Ideal S2x32x4096x4096 .f32 :=
  select (broadcastInDim S2x32x4096x4096 ![2, 3] bcast_S4096x4096_S2x32x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    l (broadcastInDim S2x32x4096x4096 ![] bcast_S_S2x32x4096x4096 (id (constant S_ .f32 0xFF800000#32)))

/-- The rows' maxima. -/
def maxima (l : FVec Ideal S2x32x4096x4096 .f32) : FVec Ideal S2x32x4096 .f32 :=
  maximumf (broadcastInDim S2x32x4096 ![] bcast_S_S2x32x4096 (constant S_ .f32 0xFF800000#32))
    (Host.reduce FloatOps.maximumf l (constant S_ .f32 0xFF800000#32) reducesTo_S2x32x4096x4096_S2x32x4096_d3 h_S_)

/-- The exponentials. -/
def expos (l : FVec Ideal S2x32x4096x4096 .f32) (mx : FVec Ideal S2x32x4096 .f32) : FVec Ideal S2x32x4096x4096 .f32 :=
  Host.exp (subf l (broadcastInDim S2x32x4096x4096 ![0, 1, 2, 3] bcast_S2x32x4096x1_S2x32x4096x4096_0_1_2_3 (broadcastInDim S2x32x4096x1 ![0, 1, 2] bcast_S2x32x4096_S2x32x4096x1_0_1_2 mx)))

/-- The normalised weights. -/
def weights (e : FVec Ideal S2x32x4096x4096 .f32) : FVec Ideal S2x32x4096x4096 .f32 :=
  Host.divf e (broadcastInDim S2x32x4096x4096 ![0, 1, 2, 3] bcast_S2x32x4096x1_S2x32x4096x4096_0_1_2_3 (broadcastInDim S2x32x4096x1 ![0, 1, 2] bcast_S2x32x4096_S2x32x4096x1_0_1_2
    (Host.reduceAdd e (constant S_ .f32 0x00000000#32) reducesTo_S2x32x4096x4096_S2x32x4096_d3 h_S_)))

/-- The weighted values. -/
def mixed (w : FVec Ideal S2x32x4096x4096 .f32) (v : FVec Ideal S2x32x4096x128 .f32) : FVec Ideal S2x32x4096x128 .f32 :=
  Host.dotGeneral dot_S2x32x4096x4096_S2x32x4096x128_S2x32x4096x128_3_2_2_3_01_01 none w v

/-- The gated result. -/
def gated (o : FVec Ideal S2x32x4096x128 .f32) (P : FVec Ideal S8192x4096 .bf16) : FVec Ideal S8192x4096 .bf16 :=
  shapeCast S8192x4096 (truncf .bf16 (mulf (shapeCast S2x4096x4096 (transpose S2x4096x32x128 [0, 2, 1, 3] o transposes_S2x32x4096x128_S2x4096x32x128_0_2_1_3) shapeCasts_S2x4096x32x128_S2x4096x4096)
    (Host.divf (broadcastInDim S2x4096x4096 ![] bcast_S_S2x4096x4096 (constant S_ .f32 0x3F800000#32))
      (addf (broadcastInDim S2x4096x4096 ![] bcast_S_S2x4096x4096 (constant S_ .f32 0x3F800000#32))
        (Host.exp (Host.negf (shapeCast S2x4096x4096 (extf .f32 P bitsLt_bf16_f32) shapeCasts_S8192x4096_S2x4096x4096)))))) bitsLt_bf16_f32) shapeCasts_S2x4096x4096_S8192x4096

/-- The masked logits of the arguments. -/
def lgs : FVec Ideal S2x32x4096x4096 .f32 := masked (logits (heads (part0 X)) (heads (part1 X)) (gates Y))

/-- The whole reference over its arguments. -/
def result : FVec Ideal S8192x4096 .bf16 :=
  gated (mixed (weights (expos (lgs X Y) (maxima (lgs X Y)))) (heads (part2 X))) (part3 X)

/-- The reference's run ends with its result at `result`. -/
theorem res_eq (m : (ℓ : Loc nD τ sig) → Buf (Elt Ideal) ℓ) (c : Dev nD) :
    Value.res_main_v53 m c = result (m ((c.tc : Thread nD τ).loc main_arg0)) (m ((c.tc : Thread nD τ).loc main_arg1)) := rfl

variable (b : Fin 2) (h : Fin 32) (r j : Fin 4096) (d : Fin 128)

/-- A row's place among the rows of both sequences. -/
abbrev rowIx (b : Fin 2) (r : Fin 4096) : Fin 8192 := ⟨b.val * 4096 + r.val, by omega⟩
/-- A head's column in the range starting at `o`. -/
abbrev colIx (o : ℕ) (ho : o ≤ 12288) (h : Fin 32) (d : Fin 128) : Fin 16384 := ⟨o + (h.val * 128 + d.val), by omega⟩
abbrev colO (h : Fin 32) (d : Fin 128) : Fin 4096 := ⟨h.val * 128 + d.val, by omega⟩

theorem heads_at (P : FVec Ideal S8192x4096 .bf16) : heads P (ix4 b h r d) = P (ix2 (rowIx b r) (colO h d)) := by
  pointwise [heads]

theorem part0_at (R : Fin 8192) (C : Fin 4096) : part0 X (ix2 R C) = X (ix2 R ⟨0 + C.val, by omega⟩) := by
  pointwise [part0]
theorem part1_at (R : Fin 8192) (C : Fin 4096) : part1 X (ix2 R C) = X (ix2 R ⟨4096 + C.val, by omega⟩) := by
  pointwise [part1]
theorem part2_at (R : Fin 8192) (C : Fin 4096) : part2 X (ix2 R C) = X (ix2 R ⟨8192 + C.val, by omega⟩) := by
  pointwise [part2]
theorem part3_at (R : Fin 8192) (C : Fin 4096) : part3 X (ix2 R C) = X (ix2 R ⟨12288 + C.val, by omega⟩) := by
  pointwise [part3]

theorem gates_at : gates Y (ix3 b h r) = Y (ix2 (rowIx b r) h) := by
  pointwise [gates]

theorem logits_at (q k : FVec Ideal S2x32x4096x128 .f32) (g : FVec Ideal S2x32x4096 .f32) : logits q k g (ix4 b h r j)
    = ((∑ e : Fin 128, q (ix4 b h r e) * k (ix4 b h j e)) + g (ix3 b h r)) - g (ix3 b h j) := by
  pointwise [logits]

theorem masked_at (l : FVec Ideal S2x32x4096x4096 .f32) : masked l (ix4 b h r j) = if j.val ≤ r.val then l (ix4 b h r j) else ⊥ := by
  pointwise [masked]
  refine (select_sle (by omega) (by omega) _ _).trans ?_
  show (if _ then _ else Ideal.ofBits .f32 0xFF800000#32) = _
  rw [ofBits_negInf]

/-- A host maximum over the last of four axes, at any sizes. -/
theorem reduceMax_at {n0 n1 n2 n3 : ℕ} {u : Shape} (hr : (⟨4, ![n0, n1, n2, n3]⟩ : Shape).ReducesTo [3] ⟨3, ![n0, n1, n2]⟩) (hu : 0 < u.numel)
    (l : FVec Ideal ⟨4, ![n0, n1, n2, n3]⟩ .f32) (init : u.Idx → EReal) (a : Fin n0) (b : Fin n1) (c : Fin n2) :
    Host.reduce (FloatOps.maximumf (F := Ideal) (φ := .f32)) l init hr hu (ix3 a b c)
      = Finset.univ.fold max (init (Shape.Idx.first hu)) fun k : Fin n3 => l (ix4 a b c k) := by
  rw [Host.reduce_eq_fold, Shape.ReducesTo.fold_fiber_r4_a3]
  rfl

theorem maxima_at (l : FVec Ideal S2x32x4096x4096 .f32) : maxima l (ix3 b h r) = Finset.univ.fold max ⊥ fun j : Fin 4096 => l (ix4 b h r j) := by
  unfold maxima
  refine (maximumf_apply _ _ _).trans ?_
  refine (congrArg (max _) (reduceMax_at _ _ l _ b h r)).trans ?_
  show max (Ideal.ofBits .f32 0xFF800000#32) (Finset.univ.fold max (Ideal.ofBits .f32 0xFF800000#32) _) = _
  rw [ofBits_negInf]
  exact max_eq_right bot_le

theorem expos_at (l : FVec Ideal S2x32x4096x4096 .f32) (mx : FVec Ideal S2x32x4096 .f32) : expos l mx (ix4 b h r j)
    = Ideal.exp (l (ix4 b h r j) - mx (ix3 b h r)) := by
  pointwise [expos]

theorem weights_at (e : FVec Ideal S2x32x4096x4096 .f32) : weights e (ix4 b h r j)
    = Ideal.div (e (ix4 b h r j)) (∑ j' : Fin 4096, e (ix4 b h r j')) := by
  pointwise [weights]

theorem mixed_at (w : FVec Ideal S2x32x4096x4096 .f32) (v : FVec Ideal S2x32x4096x128 .f32) : mixed w v (ix4 b h r d)
    = ∑ j : Fin 4096, w (ix4 b h r j) * v (ix4 b h j d) := by
  pointwise [mixed]

theorem gated_at (o : FVec Ideal S2x32x4096x128 .f32) (P : FVec Ideal S8192x4096 .bf16) : gated o P (ix2 (rowIx b r) (colO h d))
    = o (ix4 b h r d) * Ideal.div (1 : EReal) ((1 : EReal) + Ideal.exp (-P (ix2 (rowIx b r) (colO h d)))) := by
  pointwise [gated]
  have h0 := r.isLt
  have h1 := d.isLt
  have e0 : (b.val * 4096 + r.val) / 4096 = b.val := by omega
  have e1 : (b.val * 4096 + r.val) % 4096 = r.val := by omega
  have e2 : (h.val * 128 + d.val) / 128 = h.val := by omega
  have e3 : (h.val * 128 + d.val) % 128 = d.val := by omega
  simp only [e0, e1, e2, e3]

theorem lgs_at : lgs X Y (ix4 b h r j) = if j.val ≤ r.val then
    ((∑ e : Fin 128, X (ix2 (rowIx b r) (colIx 0 (by omega) h e)) * X (ix2 (rowIx b j) (colIx 4096 (by omega) h e))) + Y (ix2 (rowIx b r) h)) - Y (ix2 (rowIx b j) h)
    else ⊥ := by
  unfold lgs
  rw [masked_at, logits_at]
  simp only [heads_at, part0_at, part1_at, gates_at]

/-- Row `r`'s masked logits, as a sequence. -/
def seqL (q : ℕ) : EReal := if hq : q < 4096 then lgs X Y (ix4 b h r ⟨q, hq⟩) else ⊥
/-- Column `d` of the values, as a sequence. -/
def seqV (q : ℕ) : EReal := if hq : q < 4096 then X (ix2 (rowIx b ⟨q, hq⟩) (colIx 8192 (by omega) h d)) else 0

theorem seqL_fin : seqL X Y b h r j.val = lgs X Y (ix4 b h r j) := by
  unfold seqL
  rw [dif_pos j.isLt]

theorem seqV_fin : seqV X b h d j.val = X (ix2 (rowIx b j) (colIx 8192 (by omega) h d)) := by
  unfold seqV
  rw [dif_pos j.isLt]

theorem maxima_seq : maxima (lgs X Y) (ix3 b h r) = mx (seqL X Y b h r) 4096 := by
  rw [maxima_at, fold_eq_sup]
  refine Eq.trans ?_ (sup_fin_eq (seqL X Y b h r) 4096)
  simp only [seqL_fin]

theorem den_seq : den (seqL X Y b h r) 4096 = ∑ j : Fin 4096, expos (lgs X Y) (maxima (lgs X Y)) (ix4 b h r j) := by
  refine (Finset.sum_range _).trans ?_
  simp only [expos_at, maxima_seq, seqL_fin]

/-- The reference at an index: the weighted values' quotient by the weights' sum, times the gate. -/
theorem result_at (hL : ∀ q, seqL X Y b h r q ≠ ⊤) (hb : seqL X Y b h r r.val ≠ ⊥) : result X Y (ix2 (rowIx b r) (colO h d))
    = Ideal.div (num (seqL X Y b h r) (seqV X b h d) 4096) (den (seqL X Y b h r) 4096)
      * Ideal.div (1 : EReal) ((1 : EReal) + Ideal.exp (-X (ix2 (rowIx b r) (colIx 12288 (by omega) h d)))) := by
  unfold result
  rw [gated_at, part3_at, mixed_at, div_sum _ _ hL 4096 r.val r.isLt hb]
  congr 1
  refine Eq.trans ?_ (Finset.sum_range _).symm
  refine Finset.sum_congr rfl fun j _ => ?_
  rw [weights_at, ← den_seq, expos_at, maxima_seq, seqL_fin, seqV_fin, heads_at, part2_at]

end Cert.Proof.AttnRefIdeal

end
-- ==== Proof.AttnIdeal.Value.lean ====
/-
  The attention's result array over the extended reals is the plain reference's, where the queries, keys and
  cumulative gates are finite.
-/
module

public import proofs.«01_k».proof.Proof.AttnIdeal.Run
public import proofs.«01_k».proof.Proof.AttnIdeal.Tiles
public import proofs.«01_k».proof.Proof.AttnRefIdeal.Read
public import Idealize.ShloMosaic.Lib.Pipeline.ValueKit
public import proofs.«01_k».proof.Proof.Gen.Pre_finite
public import proofs.«01_k».proof.Defs

@[expose] public section

set_option maxRecDepth 16384

noncomputable section

namespace Cert.Proof.AttnIdeal

open Cert.AttnIdeal Cert.AttnIdeal.Gen
open Idealize.ShloMosaic Idealize.ShloMosaic.TcCoe Idealize.SL.Sem
open Idealize.ShloMosaic.Pipeline (Dat)
open Cert.Proof.Softmax
open Cert.Proof.AttnRefIdeal (rowIx colIx colO seqL seqV)

/-- Every window's block at a grid point. -/
theorem idx : ∀ t : Fin cfg0.N, win0_0.index t = ![t.val / 32, t.val % 32] ∧ win0_1.index t = ![t.val / 32, 32 + t.val % 32]
    ∧ win0_2.index t = ![t.val / 32, 64 + t.val % 32] ∧ win0_3.index t = ![t.val / 32, 96 + t.val % 32]
    ∧ win0_4.index t = ![t.val / 32, 0] ∧ win0_5.index t = ![t.val / 32, t.val % 32, 0, 0, 0]
    ∧ win0_6.index t = ![t.val / 32, t.val % 32] ∧ (grid0.coords t 1).val = t.val % 32 ∧ t.val < 64 :=
  (by decide +kernel : ∀ t : Fin grid0.N, _)

/-- The point's sequence. -/
def bOf (t : Fin cfg0.N) : Fin 2 := ⟨t.val / 32, by have := (idx t).2.2.2.2.2.2.2.2; omega⟩
/-- The point's head. -/
def hOf (t : Fin cfg0.N) : Fin 32 := ⟨t.val % 32, by omega⟩

variable (m : (ℓ : Loc nD τ sig) → Buf (Elt Ideal) ℓ) (c : Dev nD) (t : Fin cfg0.N) (r j : Fin 4096) (d : Fin 128)

/-- The projections, as the run finds them. -/
abbrev argX : FVec Ideal S8192x16384 .bf16 := m ((c : Thread nD τ).loc main_arg0)
/-- The cumulative gates, as the run finds them. -/
abbrev argY : FVec Ideal S8192x32 .f32 := m ((c : Thread nD τ).loc main_arg1)

theorem blk0 : (iblk m c 0 t : FVec Ideal S4096x128 .bf16) (ix2 r d) = argX m c (ix2 (rowIx (bOf t) r) (colIx 0 (by omega) (hOf t) d)) := by
  unfold bOf hOf
  blk_point [iblk, V, idx t]
theorem blk1 : (iblk m c 1 t : FVec Ideal S4096x128 .bf16) (ix2 r d) = argX m c (ix2 (rowIx (bOf t) r) (colIx 4096 (by omega) (hOf t) d)) := by
  unfold bOf hOf
  blk_point [iblk, V, idx t]
theorem blk2 : (iblk m c 2 t : FVec Ideal S4096x128 .bf16) (ix2 r d) = argX m c (ix2 (rowIx (bOf t) r) (colIx 8192 (by omega) (hOf t) d)) := by
  unfold bOf hOf
  blk_point [iblk, V, idx t]
theorem blk3 : (iblk m c 3 t : FVec Ideal S4096x128 .bf16) (ix2 r d) = argX m c (ix2 (rowIx (bOf t) r) (colIx 12288 (by omega) (hOf t) d)) := by
  unfold bOf hOf
  blk_point [iblk, V, idx t]
theorem blk4 (h : Fin 32) : (iblk m c 4 t : FVec Ideal S4096x32 .f32) (ix2 r h) = argY m c (ix2 (rowIx (bOf t) r) h) := by
  unfold bOf
  blk_point [iblk, V, idx t]
theorem blk5 : (iblk m c 5 t : FVec Ideal S1x1x8x1x512 .f32) (ix5 0 0 ⟨j.val / 512, by omega⟩ 0 ⟨j.val % 512, by omega⟩)
    = argY m c (ix2 (rowIx (bOf t) j) (hOf t)) := by
  unfold bOf hOf
  blk_point [iblk, V, idx t]

/-- The finiteness of queries, keys and gates, at the indices. -/
structure Finite (X : FVec Ideal S8192x16384 .bf16) (Y : FVec Ideal S8192x32 .f32) : Prop where
  x : ∀ (R : Fin 8192) (C : Fin 16384), C.val < 8192 → X (ix2 R C) ≠ ⊤ ∧ X (ix2 R C) ≠ ⊥
  y : ∀ (R : Fin 8192) (h : Fin 32), Y (ix2 R h) ≠ ⊤ ∧ Y (ix2 R h) ≠ ⊥

theorem real_of {x : EReal} (h : x ≠ ⊤ ∧ x ≠ ⊥) : ∃ a : ℝ, x = a := ⟨x.toReal, (EReal.coe_toReal h.1 h.2).symm⟩

theorem sum_real {n : ℕ} (f : Fin n → EReal) (h : ∀ i, ∃ a : ℝ, f i = a) : ∃ a : ℝ, ∑ i, f i = a := by
  refine Finset.sum_induction f (fun x => ∃ a : ℝ, x = a) ?_ ⟨0, rfl⟩ fun i _ => h i
  rintro _ _ ⟨a, rfl⟩ ⟨b, rfl⟩
  exact ⟨a + b, (EReal.coe_add a b).symm⟩

/-- A score is a real number. -/
theorem score_real {X : FVec Ideal S8192x16384 .bf16} {Y : FVec Ideal S8192x32 .f32} (hf : Finite X Y) (b : Fin 2) (h : Fin 32) (r j : Fin 4096) :
    ∃ a : ℝ, ((∑ e : Fin 128, X (ix2 (rowIx b r) (colIx 0 (by omega) h e)) * X (ix2 (rowIx b j) (colIx 4096 (by omega) h e))) + Y (ix2 (rowIx b r) h)) - Y (ix2 (rowIx b j) h) = a := by
  obtain ⟨s, hs⟩ := sum_real (fun e : Fin 128 => (X (ix2 (rowIx b r) (colIx 0 (by omega) h e)) * X (ix2 (rowIx b j) (colIx 4096 (by omega) h e)) : EReal)) fun e => by
    obtain ⟨x, hx⟩ := real_of (hf.x (rowIx b r) (colIx 0 (by omega) h e) (by show 0 + (h.val * 128 + e.val) < 8192; omega))
    obtain ⟨y, hy⟩ := real_of (hf.x (rowIx b j) (colIx 4096 (by omega) h e) (by show 4096 + (h.val * 128 + e.val) < 8192; omega))
    exact ⟨x * y, by rw [hx, hy, EReal.coe_mul]⟩
  obtain ⟨u, hu⟩ := real_of (hf.y (rowIx b r) h)
  obtain ⟨v, hv⟩ := real_of (hf.y (rowIx b j) h)
  exact ⟨s + u - v, by rw [hs, hu, hv, EReal.coe_sub, EReal.coe_add]⟩

/-- The kernel's score of a row and a key is the reference's. -/
theorem sc_eq : sc (grid0.coords t) (iblk m c 0 t) (iblk m c 1 t) (iblk m c 4 t) (iblk m c 5 t) r j
    = ((∑ e : Fin 128, argX m c (ix2 (rowIx (bOf t) r) (colIx 0 (by omega) (hOf t) e)) * argX m c (ix2 (rowIx (bOf t) j) (colIx 4096 (by omega) (hOf t) e)))
        + argY m c (ix2 (rowIx (bOf t) r) (hOf t))) - argY m c (ix2 (rowIx (bOf t) j) (hOf t)) := by
  have hh : (⟨(grid0.coords t 1).val, (grid0.coords t 1).isLt⟩ : Fin 32) = hOf t := Fin.ext (idx t).2.2.2.2.2.2.2.1
  unfold sc
  refine Eq.trans (b := (∑ e : Fin 128, argX m c (ix2 (rowIx (bOf t) r) (colIx 0 (by omega) (hOf t) e)) * argX m c (ix2 (rowIx (bOf t) j) (colIx 4096 (by omega) (hOf t) e)))
        + (argY m c (ix2 (rowIx (bOf t) r) (hOf t)) - argY m c (ix2 (rowIx (bOf t) j) (hOf t)))) ?_ ?_
  · refine congrArg₂ (· + ·) (Finset.sum_congr rfl fun e _ => congrArg₂ (· * ·) (blk0 m c t r e) (blk1 m c t j e)) (congrArg₂ (· - ·) ?_ (blk5 m c t j))
    exact (congrArg (fun h : Fin 32 => (iblk m c 4 t : FVec Ideal S4096x32 .f32) (ix2 r h)) hh).trans (blk4 m c t r (hOf t))
  · rw [sub_eq_add_neg, sub_eq_add_neg, add_assoc]

theorem lg_eq : lg (grid0.coords t) (iblk m c 0 t) (iblk m c 1 t) (iblk m c 4 t) (iblk m c 5 t) r = seqL (argX m c) (argY m c) (bOf t) (hOf t) r := by
  funext q
  unfold lg seqL
  split_ifs with h1 h2
  · rw [Cert.Proof.AttnRefIdeal.lgs_at, if_pos h2, sc_eq]
  · rw [Cert.Proof.AttnRefIdeal.lgs_at, if_neg h2]
  · rfl

theorem vl_eq : vl (iblk m c 2 t) d = seqV (argX m c) (bOf t) (hOf t) d := by
  funext q
  unfold vl seqV
  split_ifs with h1
  · exact blk2 m c t _ d
  · rfl

/-- The block a grid point writes is the reference's block there. -/
theorem point (hf : Finite (argX m c) (argY m c)) : outAt m c t (ix2 r d)
    = Cert.Proof.AttnRefIdeal.result (argX m c) (argY m c) (ix2 (rowIx (bOf t) r) (colO (hOf t) d)) := by
  have hs : ∀ j, sc (grid0.coords t) (iblk m c 0 t) (iblk m c 1 t) (iblk m c 4 t) (iblk m c 5 t) r j ≠ ⊤ := fun j => by
    obtain ⟨a, ha⟩ := score_real hf (bOf t) (hOf t) r j
    rw [sc_eq, ha]
    exact EReal.coe_ne_top a
  have hb : seqL (argX m c) (argY m c) (bOf t) (hOf t) r r.val ≠ ⊥ := by
    obtain ⟨a, ha⟩ := score_real hf (bOf t) (hOf t) r r
    rw [Cert.Proof.AttnRefIdeal.seqL_fin, Cert.Proof.AttnRefIdeal.lgs_at, if_pos (le_refl _), ha]
    exact EReal.coe_ne_bot a
  have hL : ∀ q, seqL (argX m c) (argY m c) (bOf t) (hOf t) r q ≠ ⊤ := fun q => by
    rw [← lg_eq m c t r]
    exact lg_ne_top _ _ _ _ _ r hs q
  unfold outAt
  refine (outFn_at _ _ _ _ _ _ _ r d hs).trans ?_
  rw [Cert.Proof.AttnRefIdeal.result_at _ _ _ _ _ _ hL hb, lg_eq, vl_eq, sub_eq_add_neg, zero_add]
  exact congrArg (fun x : EReal => _ * Ideal.div (1 : EReal) ((1 : EReal) + Ideal.exp (-x))) (blk3 m c t r d)

/-- The attention's result array after the run is the reference's. -/
theorem final (hf : Finite (argX m c) (argY m c)) : (dats m 0 c).arrAt 6 (cfgs 0).N = Cert.Proof.AttnRefIdeal.result (argX m c) (argY m c) := by
  refine (dats m 0 c).arrAt_eq_of_covers 6 _ (by decide +kernel) fun t _ y => ?_
  blk_simp
  rw [after_6]
  idx_vars y
  refine (point m c t _ _ hf).trans ?_
  unfold bOf hOf
  blk_ext [idx t]

theorem ofBits_posInf : Ideal.ofBits .f32 0x7F800000#32 = ⊤ := by
  show Ideal.ieee 8 23 0x7F800000#32 = ⊤
  unfold Ideal.ieee
  simp

/-- A value whose absolute value is below infinity is neither infinity. -/
theorem ne_of_abs (φ : FTy) (x : EReal) (h : BitVec.ofBool (decide ((FloatOps.absf (F := Ideal) (φ := φ) x : EReal) < Ideal.ofBits .f32 0x7F800000#32)) = 1#1) :
    x ≠ ⊤ ∧ x ≠ ⊥ := by
  rw [ofBits_posInf] at h
  have h' : (FloatOps.absf (F := Ideal) (φ := φ) x : EReal) < ⊤ := by
    by_contra hn
    rw [decide_eq_false hn] at h
    exact absurd h (by decide)
  constructor
  · rintro rfl
    exact absurd h' (by show ¬ max (⊤ : EReal) (-⊤) < ⊤; simp)
  · rintro rfl
    exact absurd h' (by show ¬ max (⊥ : EReal) (-⊥) < ⊤; simp)

/-- The stated precondition is that finiteness. -/
theorem finite_of_pre (h : Cert.Pre_AttnIdeal_finite (hPre_finite := Cert.Pre_finite.Gen.facts) m) : Finite (argX m c) (argY m c) := by
  constructor
  · intro R C hC
    have := congrFun (h c).1 (ix2 R ⟨C.val, hC⟩)
    revert this
    pointwise [Cert.Pre_finite.fn]
    exact ne_of_abs _ _
  · intro R hh
    have := congrFun (h c).2 (ix2 R hh)
    revert this
    pointwise [Cert.Pre_finite.fn]
    exact ne_of_abs _ _

end Cert.Proof.AttnIdeal

end
-- ==== Proof.Claims.Attn.lean ====
/-
  The attention's claims: the frames of the kernel and of the reference, and the equality of their results.
-/
module

public import proofs.«01_k».proof.Proof.Attn.Run
public import proofs.«01_k».proof.Proof.AttnIdeal.Value

@[expose] public section

set_option maxRecDepth 16384

noncomputable section

namespace Cert.Proof.Claims

open Idealize.ShloMosaic Idealize.ShloMosaic.TcCoe Idealize.SL.Sem

/-- The kernel's frame. -/
theorem attn_frame : Cert.quiescent_Attn (hAttn := Cert.Attn.Gen.facts) :=
  fun m ρ _ => Cert.Proof.Attn.frame m ρ

/-- The idealized kernel's frame. -/
theorem attnIdeal_frame : Cert.quiescent_AttnIdeal (hAttnIdeal := Cert.AttnIdeal.Gen.facts) :=
  fun m ρ _ => Cert.Proof.AttnIdeal.frame m ρ

theorem attnIdeal_frame_pre : Cert.quiescent_AttnIdeal_pre_finite (hAttnIdeal := Cert.AttnIdeal.Gen.facts) (hPre_finite := Cert.Pre_finite.Gen.facts) :=
  fun m ρ _ => Cert.Proof.AttnIdeal.frame m ρ

/-- The idealized reference's frame. -/
theorem attnRef_frame : Cert.quiescent_AttnRefIdeal (hAttnRefIdeal := Cert.AttnRefIdeal.Gen.facts) := fun m g _ =>
  θ_run_and (by run_from Cert.AttnRefIdeal.Value.run m g)
    ((θ_run _ _ _).mono (fun r _ => Idealize.ShloMosaic.sem_eq_zero_of_no_sems (by decide) r.2) (Cert.AttnRefIdeal.Value.run m g))

theorem attnRef_frame_pre : Cert.quiescent_AttnRefIdeal_pre_finite (hAttnRefIdeal := Cert.AttnRefIdeal.Gen.facts) (hPre_finite := Cert.Pre_finite.Gen.facts) :=
  fun m g _ => attnRef_frame m g trivial

/-- The kernel's result is the reference's. -/
theorem attn_algebraic : Cert.algebraic_AttnIdeal_AttnRefIdeal_pre_finite (hAttnIdeal := Cert.AttnIdeal.Gen.facts) (hAttnRefIdeal := Cert.AttnRefIdeal.Gen.facts) (hPre_finite := Cert.Pre_finite.Gen.facts) := by
  pair_intro
  · run_from Cert.Proof.AttnIdeal.run_main m g
  · run_from Cert.AttnRefIdeal.Value.run m' g'
    rw [Cert.Proof.AttnRefIdeal.res_eq]
    rw [(hagree c).1, (hagree c).2]
    exact (Cert.Proof.AttnIdeal.final m c (Cert.Proof.AttnIdeal.finite_of_pre m c hpre)).symm

end Cert.Proof.Claims

end
-- ==== Proof.UpIdeal.Pays.lean ====
/-
  The FFN up projection's payloads, read at an index.
-/
module

public import proofs.«01_k».proof.Proof.Gen.UpIdeal.Skeleton
public import Idealize.ShloMosaic.Lib.Pipeline.ValueKit

@[expose] public section

set_option maxRecDepth 16384

noncomputable section

namespace Cert.Proof.UpIdeal

open Cert.UpIdeal Cert.UpIdeal.Gen
open Idealize.ShloMosaic Idealize.ShloMosaic.TcCoe Idealize.SL.Sem

variable (a : Vec Ideal S1024x4096 .bf16) (w : Vec Ideal S4096x256 .bf16) (h : Vec Ideal S8x256 .f32) (cw : Vec Ideal S1x3x256 .f32)

/-- The block's product, row `r` and column `l`. -/
def dotAt (r : Fin 1024) (l : Fin 256) : EReal := ∑ k : Fin 4096, (a (ix2 r k) : EReal) * w (ix2 k l)

theorem pay6_at (r : Fin 1024) (l : Fin 256) : k0_pay6 (F := Ideal) a w (ix2 r l) = dotAt a w r l := by
  pointwise [k0_pay6]
  rfl

theorem pay13_at (r : Fin 1024) (l : Fin 256) : k0_pay13 (F := Ideal) a w (ix2 r l) = dotAt a w r l := by
  pointwise [k0_pay13]
  rfl

/-- One column of the short causal convolution: the weights `c` on a row's value `x`, the one before and the one before that. -/
def conv (c0 c1 c2 x x1 x2 : EReal) : EReal := c2 * x + c1 * x1 + c0 * x2

/-- The gate's activation. -/
def act (g : EReal) : EReal := g * Ideal.div 1 (1 + Ideal.exp (-g))

/-- The convolution of the second half's block, where `x1` and `x2` are the values of the one and two rows before, in the
    block or, for its first rows, in the rows carried from the block before. -/
theorem pay14_at (r : Fin 1024) (l : Fin 256) (x1 x2 : EReal)
    (h1 : ∀ e : Fin 8, e.val = 7 + r.val → h (ix2 e l) = x1) (h1' : ∀ q : Fin 1024, q.val + 1 = r.val → dotAt a w q l = x1)
    (h2 : ∀ e : Fin 8, e.val = 6 + r.val → h (ix2 e l) = x2) (h2' : ∀ q : Fin 1024, q.val + 2 = r.val → dotAt a w q l = x2) :
    k0_pay14 (F := Ideal) a w h cw (ix2 r l)
      = conv (cw (ix3 0 0 l)) (cw (ix3 0 1 l)) (cw (ix3 0 2 l)) (dotAt a w r l) x1 x2 := by
  pointwise [k0_pay14, pay13_at]
  unfold conv
  congr 1
  · congr 2
    split
    · exact h1 _ (by simp only; omega)
    · exact h1' _ (by simp only; omega)
  · congr 1
    split
    · exact h2 _ (by simp only; omega)
    · exact h2' _ (by simp only; omega)

/-- The convolution of the first half's block and its activation. -/
theorem pay16_at (r : Fin 1024) (l : Fin 256) (x1 x2 : EReal)
    (h1 : ∀ e : Fin 8, e.val = 7 + r.val → h (ix2 e l) = x1) (h1' : ∀ q : Fin 1024, q.val + 1 = r.val → dotAt a w q l = x1)
    (h2 : ∀ e : Fin 8, e.val = 6 + r.val → h (ix2 e l) = x2) (h2' : ∀ q : Fin 1024, q.val + 2 = r.val → dotAt a w q l = x2) :
    k0_pay16 (F := Ideal) (k0_pay9 a w h cw) (k0_pay10 cw) (k0_pay11 a w h) (ix2 r l)
      = act (conv (cw (ix3 0 0 l)) (cw (ix3 0 1 l)) (cw (ix3 0 2 l)) (dotAt a w r l) x1 x2) := by
  have key : ∀ x : EReal, x = conv (cw (ix3 0 0 l)) (cw (ix3 0 1 l)) (cw (ix3 0 2 l)) (dotAt a w r l) x1 x2 →
      x * Ideal.div 1 (1 + Ideal.exp (0 - x)) = act (conv (cw (ix3 0 0 l)) (cw (ix3 0 1 l)) (cw (ix3 0 2 l)) (dotAt a w r l) x1 x2) := by
    rintro x rfl
    unfold act
    rw [zero_sub]
  pointwise [k0_pay16, k0_pay9, k0_pay10, k0_pay11, k0_pay7, k0_pay8, pay6_at]
  refine key _ ?_
  unfold conv
  congr 1
  · congr 2
    split
    · exact h1 _ (by simp only; omega)
    · exact h1' _ (by simp only; omega)
  · congr 1
    split
    · exact h2 _ (by simp only; omega)
    · exact h2' _ (by simp only; omega)

/-- What the block leaves for the next: its last eight rows of the products. -/
theorem pay12_at (e : Fin 8) (l : Fin 256) :
    k0_pay12 (F := Ideal) (k0_pay6 a w) (ix2 e l) = dotAt a w ⟨1016 + e.val, by omega⟩ l := by
  pointwise [k0_pay12, pay6_at]

theorem pay15_at (e : Fin 8) (l : Fin 256) :
    k0_pay15 (F := Ideal) a w (ix2 e l) = dotAt a w ⟨1016 + e.val, by omega⟩ l := by
  pointwise [k0_pay15, pay13_at]

theorem pay1_at (g v : FVec Ideal S1024x256 .f32) (r : Fin 1024) (l : Fin 256) :
    k0_pay1 (F := Ideal) v g (ix2 r l) = (g (ix2 r l) : EReal) * v (ix2 r l) := by
  pointwise [k0_pay1]

end Cert.Proof.UpIdeal

end
-- ==== Proof.UpIdeal.Ref.lean ====
/-
  The FFN up projection's plain reference, read at an index.
-/
module

public import proofs.«01_k».proof.Proof.UpIdeal.Pays
public import proofs.«01_k».proof.Proof.Gen.UpRefIdeal.Run

@[expose] public section

set_option maxRecDepth 16384

noncomputable section

namespace Cert.Proof.UpIdeal

open Cert.UpRefIdeal Cert.UpRefIdeal.Gen
open Idealize.ShloMosaic Idealize.ShloMosaic.TcCoe Idealize.SL.Sem

variable (H : FVec Ideal S8192x4096 .bf16) (W : FVec Ideal S2x4096x22016 .f32) (C : FVec Ideal S2x3x22016 .f32)

/-- The reference's product, one sequence after the other, with two rows of zeros before each. -/
def padded : FVec Ideal S2x4098x22016 .f32 :=
  pad S2x4098x22016 ![0, 2, 0] ![0, 0, 0] ![0, 0, 0]
    (shapeCast S2x4096x22016 (Host.dotGeneral dot_S8192x4096_S4096x22016_S8192x22016_1_0_0_1_n_n none (extf .f32 H bitsLt_bf16_f32)
      (shapeCast S4096x22016 (extractStridedSlice S1x4096x22016 ![0, 0, 0] W slices_S2x4096x22016_S1x4096x22016_0_0_0) shapeCasts_S1x4096x22016_S4096x22016))
      shapeCasts_S8192x22016_S2x4096x22016) (sitofp .f32 (constantI S_ 32 0#32)) pads_S2x4096x22016_S2x4098x22016_000_200_000 h_S_

/-- The product of row `R` of the activations by column `j` of the weights. -/
def uAt (R : Fin 8192) (j : Fin 22016) : EReal := ∑ k : Fin 4096, (H (ix2 R k) : EReal) * W (ix3 (0 : Fin 2) k j)

/-- The product `d` rows before row `R` of the same sequence, zero before its beginning. -/
def lagAt (R : Fin 8192) (j : Fin 22016) (d : ℕ) : EReal :=
  if R.val % 4096 < d then 0 else uAt H W ⟨R.val - d, by omega⟩ j

theorem padded_at (b : Fin 2) (s : Fin 4098) (j : Fin 22016) :
    padded H W (ix3 b s j) = if h : s.val < 2 then (0 : EReal) else uAt H W ⟨b.val * 4096 + (s.val - 2), by omega⟩ j := by
  pointwise [padded]
  by_cases h : s.val < 2
  · rw [dif_pos h, dif_neg (by omega)]
    show (((0#32 : BitVec 32).toInt : ℝ) : EReal) = 0
    simp
  · rw [dif_neg h, dif_pos ⟨by omega, by omega⟩]
    rfl

/-- One convolution weight, the same for every position. -/
def tap (k : ℕ) (hk : Shape.Slices S3x22016 ![k, 0] S1x22016) : FVec Ideal S2x4096x22016 .f32 :=
  broadcastInDim S2x4096x22016 ![0, 1, 2] bcast_S1x1x22016_S2x4096x22016_0_1_2
    (broadcastInDim S1x1x22016 ![2] bcast_S22016_S1x1x22016_2
      (shapeCast S22016 (extractStridedSlice S1x22016 ![k, 0] (shapeCast S3x22016 (extractStridedSlice S1x3x22016 ![0, 0, 0] C slices_S2x3x22016_S1x3x22016_0_0_0)
        shapeCasts_S1x3x22016_S3x22016) hk) shapeCasts_S1x22016_S22016))

theorem tap0_at (b : Fin 2) (s : Fin 4096) (j : Fin 22016) : tap C 0 slices_S3x22016_S1x22016_0_0 (ix3 b s j) = C (ix3 (0 : Fin 2) (0 : Fin 3) j) := by
  pointwise [tap]
theorem tap1_at (b : Fin 2) (s : Fin 4096) (j : Fin 22016) : tap C 1 slices_S3x22016_S1x22016_1_0 (ix3 b s j) = C (ix3 (0 : Fin 2) (1 : Fin 3) j) := by
  pointwise [tap]
theorem tap2_at (b : Fin 2) (s : Fin 4096) (j : Fin 22016) : tap C 2 slices_S3x22016_S1x22016_2_0 (ix3 b s j) = C (ix3 (0 : Fin 2) (2 : Fin 3) j) := by
  pointwise [tap]

/-- The reference's convolution. -/
def convs : FVec Ideal S2x4096x22016 .f32 :=
  addf (addf (mulf (extractStridedSlice S2x4096x22016 ![0, 0, 0] (padded H W) slices_S2x4098x22016_S2x4096x22016_0_0_0) (tap C 0 slices_S3x22016_S1x22016_0_0))
    (mulf (extractStridedSlice S2x4096x22016 ![0, 1, 0] (padded H W) slices_S2x4098x22016_S2x4096x22016_0_1_0) (tap C 1 slices_S3x22016_S1x22016_1_0)))
    (mulf (extractStridedSlice S2x4096x22016 ![0, 2, 0] (padded H W) slices_S2x4098x22016_S2x4096x22016_0_2_0) (tap C 2 slices_S3x22016_S1x22016_2_0))

/-- The convolution at row `R` and column `j`. -/
def convAt (R : Fin 8192) (j : Fin 22016) : EReal :=
  conv (C (ix3 (0 : Fin 2) (0 : Fin 3) j)) (C (ix3 (0 : Fin 2) (1 : Fin 3) j)) (C (ix3 (0 : Fin 2) (2 : Fin 3) j)) (uAt H W R j) (lagAt H W R j 1) (lagAt H W R j 2)

theorem padded_lag (d : ℕ) (hd : d ≤ 2) (b : Fin 2) (s : Fin 4096) (R : Fin 8192) (hR : R.val = b.val * 4096 + s.val) (q : Fin 4098) (hq : q.val + d = s.val + 2) (j : Fin 22016) :
    padded H W (ix3 b q j) = lagAt H W R j d := by
  rw [padded_at]
  unfold lagAt
  by_cases h : q.val < 2
  · rw [dif_pos h, if_pos (by omega)]
  · rw [dif_neg h, if_neg (by omega)]
    congr 1
    apply Fin.ext
    simp only
    omega

theorem convs_at (b : Fin 2) (s : Fin 4096) (R : Fin 8192) (hR : R.val = b.val * 4096 + s.val) (j : Fin 22016) :
    convs H W C (ix3 b s j) = convAt H W C R j := by
  have e0 : lagAt H W R j 0 = uAt H W R j := by unfold lagAt; rw [if_neg (by omega)]; rfl
  pointwise [convs, tap0_at, tap1_at, tap2_at]
  rw [padded_lag H W 2 (by omega) b s R hR _ (by first | omega | (simp only; done) | (simp only; omega)) j, padded_lag H W 1 (by omega) b s R hR _ (by first | omega | (simp only; done) | (simp only; omega)) j,
    padded_lag H W 0 (by omega) b s R hR _ (by first | omega | (simp only; done) | (simp only; omega)) j, e0]
  unfold convAt conv
  simp only [mul_comm, add_comm, add_left_comm, add_assoc]

/-- The reference's result: the activated first half times the second half. -/
def ref : FVec Ideal S8192x11008 .bf16 :=
  have y := convs H W C
  have g : FVec Ideal S2x4096x11008 .f32 := extractStridedSlice S2x4096x11008 ![0, 0, 0] y slices_S2x4096x22016_S2x4096x11008_0_0_0
  have v : FVec Ideal S2x4096x11008 .f32 := extractStridedSlice S2x4096x11008 ![0, 0, 11008] y slices_S2x4096x22016_S2x4096x11008_0_0_11008
  have one : FVec Ideal S2x4096x11008 .f32 := broadcastInDim S2x4096x11008 ![] bcast_S_S2x4096x11008 (constant S_ .f32 0x3F800000#32)
  shapeCast S8192x11008 (truncf .bf16 (mulf (mulf g (Host.divf one (addf one (Host.exp (Host.negf g))))) v) bitsLt_bf16_f32) shapeCasts_S2x4096x11008_S8192x11008

theorem ref_at (R : Fin 8192) (j : Fin 11008) :
    ref H W C (ix2 R j) = act (convAt H W C R ⟨j.val, by omega⟩) * convAt H W C R ⟨11008 + j.val, by omega⟩ := by
  pointwise [ref]
  rw [convs_at H W C _ _ R (by first | omega | (simp only; done) | (simp only; omega)), convs_at H W C _ _ R (by first | omega | (simp only; done) | (simp only; omega))]
  rfl

end Cert.Proof.UpIdeal

end
-- ==== Proof.UpIdeal.Value.lean ====
/-
  The FFN up projection's result array over the extended reals is the plain reference's.
-/
module

public import proofs.«01_k».proof.Proof.Gen.UpIdeal.Value
public import proofs.«01_k».proof.Proof.UpIdeal.Ref
public import Idealize.ShloMosaic.Lib.Pipeline.ValueKit

@[expose] public section

set_option maxRecDepth 16384

noncomputable section

namespace Cert.Proof.UpIdeal

open Cert.UpIdeal Cert.UpIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 8, 0] ∧ win0_1.index t = ![0, 0, t.val / 8]
    ∧ win0_2.index t = ![0, 0, 43 + t.val / 8] ∧ win0_3.index t = ![0, 0, t.val / 8] ∧ win0_4.index t = ![0, 0, 43 + t.val / 8]
    ∧ win0_5.index t = ![t.val % 8, t.val / 8] ∧ t.val < 344 :=
  (by decide +kernel : ∀ t : Fin grid0.N, _)

theorem lt_points (t : Fin cfg0.N) : t.val < 344 := (idx t).2.2.2.2.2.2

variable (m : (ℓ : Loc nD τ sig) → Buf (Elt Ideal) ℓ) (c : Dev nD)

/-- The activations, as the run finds them. -/
abbrev argH : FVec Ideal S8192x4096 .bf16 := m ((c : Thread nD τ).loc main_arg0)
/-- The weights, as the run finds them. -/
abbrev argW : FVec Ideal S2x4096x22016 .f32 := m ((c : Thread nD τ).loc main_arg1)
/-- The convolution's weights, as the run finds them. -/
abbrev argC : FVec Ideal S2x3x22016 .f32 := m ((c : Thread nD τ).loc main_arg2)

/-- Row `r` of grid point `n`'s rows. -/
abbrev rowOf (n : ℕ) (r : Fin 1024) : Fin 8192 := ⟨n % 8 * 1024 + r.val, by omega⟩
/-- Column `l` of grid point `n`'s columns of the first half. -/
abbrev colG (n : ℕ) (hn : n < 344) (l : Fin 256) : Fin 22016 := ⟨n / 8 * 256 + l.val, by omega⟩
/-- Column `l` of grid point `n`'s columns of the second half. -/
abbrev colV (n : ℕ) (hn : n < 344) (l : Fin 256) : Fin 22016 := ⟨11008 + (n / 8 * 256 + l.val), by omega⟩

theorem blk0 (t : Fin cfg0.N) (r : Fin 1024) (k : Fin 4096) :
    (iblk m c 0 t : FVec Ideal S1024x4096 .bf16) (ix2 r k) = argH m c (ix2 (rowOf t.val r) k) := by
  blk_point [iblk, V, idx t]
theorem blk1 (t : Fin cfg0.N) (k : Fin 4096) (l : Fin 256) :
    (iblk m c 1 t : FVec Ideal S1x4096x256 .f32) (ix3 (0 : Fin 1) k l) = argW m c (ix3 (0 : Fin 2) k (colG t.val (lt_points t) l)) := by
  blk_point [iblk, V, idx t]
theorem blk2 (t : Fin cfg0.N) (k : Fin 4096) (l : Fin 256) :
    (iblk m c 2 t : FVec Ideal S1x4096x256 .f32) (ix3 (0 : Fin 1) k l) = argW m c (ix3 (0 : Fin 2) k (colV t.val (lt_points t) l)) := by
  blk_point [iblk, V, idx t]
theorem blk3 (t : Fin cfg0.N) (k : Fin 3) (l : Fin 256) :
    (iblk m c 3 t : FVec Ideal S1x3x256 .f32) (ix3 (0 : Fin 1) k l) = argC m c (ix3 (0 : Fin 2) k (colG t.val (lt_points t) l)) := by
  blk_point [iblk, V, idx t]
theorem blk4 (t : Fin cfg0.N) (k : Fin 3) (l : Fin 256) :
    (iblk m c 4 t : FVec Ideal S1x3x256 .f32) (ix3 (0 : Fin 1) k l) = argC m c (ix3 (0 : Fin 2) k (colV t.val (lt_points t) l)) := by
  blk_point [iblk, V, idx t]

/-- The block's products are the whole product's, where the scratch holds the weights of the column. -/
theorem dot_eq (t : Fin cfg0.N) (w : Vec Ideal S4096x256 .bf16) (l : Fin 256) (j : Fin 22016)
    (hw : ∀ k : Fin 4096, w (ix2 k l) = argW m c (ix3 (0 : Fin 2) k j)) (r : Fin 1024) :
    dotAt (iblk m c 0 t) w r l = uAt (argH m c) (argW m c) (rowOf t.val r) j := by
  unfold dotAt uAt
  refine Finset.sum_congr rfl fun k _ => ?_
  rw [blk0, hw]

/-- What the carried scratch holds after a grid point: the point's columns of the weights, and the last eight rows of
    its products. -/
structure Inv (n : ℕ) (hn : n < cfg0.N) (hn' : n < 344) : Prop where
  wg : ∀ (k : Fin 4096) (l : Fin 256), (outsAt0 m c n hn).2.1 (ix2 k l) = argW m c (ix3 (0 : Fin 2) k (colG n hn' l))
  wv : ∀ (k : Fin 4096) (l : Fin 256), (outsAt0 m c n hn).2.2.1 (ix2 k l) = argW m c (ix3 (0 : Fin 2) k (colV n hn' l))
  hg : ∀ (e : Fin 8) (l : Fin 256), (outsAt0 m c n hn).2.2.2.1 (ix2 e l) = uAt (argH m c) (argW m c) (rowOf n ⟨1016 + e.val, by omega⟩) (colG n hn' l)
  hv : ∀ (e : Fin 8) (l : Fin 256), (outsAt0 m c n hn).2.2.2.2 (ix2 e l) = uAt (argH m c) (argW m c) (rowOf n ⟨1016 + e.val, by omega⟩) (colV n hn' l)

theorem castG (t : Fin cfg0.N) (k : Fin 4096) (l : Fin 256) :
    k0_pay2 (F := Ideal) (iblk m c 1 t) (ix2 k l) = argW m c (ix3 (0 : Fin 2) k (colG t.val (lt_points t) l)) := by
  pointwise [k0_pay2]
  exact blk1 m c t k l
theorem castV (t : Fin cfg0.N) (k : Fin 4096) (l : Fin 256) :
    k0_pay3 (F := Ideal) (iblk m c 2 t) (ix2 k l) = argW m c (ix3 (0 : Fin 2) k (colV t.val (lt_points t) l)) := by
  pointwise [k0_pay3]
  exact blk2 m c t k l

theorem inv_A (t : Fin cfg0.N) (h : t.val % 8 = 0) : Inv m c t.val t.isLt (lt_points t) where
  wg k l := by
    rw [outsAt0_A m c t h (by omega)]
    frame_out
    exact castG m c t k l
  wv k l := by
    rw [outsAt0_A m c t h (by omega)]
    frame_out
    exact castV m c t k l
  hg e l := by
    rw [outsAt0_A m c t h (by omega)]
    frame_out
    rw [pay12_at]
    exact dot_eq m c t _ l _ (fun k => castG m c t k l) _
  hv e l := by
    rw [outsAt0_A m c t h (by omega)]
    frame_out
    rw [pay15_at]
    exact dot_eq m c t _ l _ (fun k => castV m c t k l) _

/-- A carried scratch of weights still holds the point's columns, since the column is the point before's. -/
theorem keptG (t : Fin cfg0.N) (h : ¬ t.val % 8 = 0) (hn) (hn')
    (prev : Inv m c (t.val - 1) hn hn') (k : Fin 4096) (l : Fin 256) :
    (outsAt0 m c (t.val - 1) hn).2.1 (ix2 k l) = argW m c (ix3 (0 : Fin 2) k (colG t.val (lt_points t) l)) := by
  rw [prev.wg]
  have q : (t.val - 1) / 8 = t.val / 8 := by omega
  simp only [colG, q]
theorem keptV (t : Fin cfg0.N) (h : ¬ t.val % 8 = 0) (hn) (hn')
    (prev : Inv m c (t.val - 1) hn hn') (k : Fin 4096) (l : Fin 256) :
    (outsAt0 m c (t.val - 1) hn).2.2.1 (ix2 k l) = argW m c (ix3 (0 : Fin 2) k (colV t.val (lt_points t) l)) := by
  rw [prev.wv]
  have q : (t.val - 1) / 8 = t.val / 8 := by omega
  simp only [colV, q]

/-- Reading a whole scratch gives what it holds. -/
theorem read0 (x : Vec Ideal S4096x256 .bf16) (hw : (Memref.whole cc0_scratch0).IsWhole) : View.read (Elt Ideal) (View.whole cc0_scratch0) (hw.unread x) = x :=
  Memref.IsWhole.read_unread (m := Memref.whole cc0_scratch0) _ _
theorem read1 (x : Vec Ideal S4096x256 .bf16) (hw : (Memref.whole cc0_scratch1).IsWhole) : View.read (Elt Ideal) (View.whole cc0_scratch1) (hw.unread x) = x :=
  Memref.IsWhole.read_unread (m := Memref.whole cc0_scratch1) _ _
theorem read2 (x : Vec Ideal S8x256 .f32) (hw : (Memref.whole cc0_scratch2).IsWhole) : View.read (Elt Ideal) (View.whole cc0_scratch2) (hw.unread x) = x :=
  Memref.IsWhole.read_unread (m := Memref.whole cc0_scratch2) _ _
theorem read3 (x : Vec Ideal S8x256 .f32) (hw : (Memref.whole cc0_scratch3).IsWhole) : View.read (Elt Ideal) (View.whole cc0_scratch3) (hw.unread x) = x :=
  Memref.IsWhole.read_unread (m := Memref.whole cc0_scratch3) _ _

theorem inv_B (t : Fin cfg0.N) (h : ¬ t.val % 8 = 0) (h4 : ¬ t.val % 4 = 0) (hn) (hn')
    (prev : Inv m c (t.val - 1) hn hn') : Inv m c t.val t.isLt (lt_points t) where
  wg k l := by
    rw [outsAt0_B m c t h h4]
    exact keptG m c t h _ _ prev k l
  wv k l := by
    rw [outsAt0_B m c t h h4]
    exact keptV m c t h _ _ prev k l
  hg e l := by
    rw [outsAt0_B m c t h h4]
    frame_out
    rw [pay12_at]
    exact dot_eq m c t _ l _ (fun k => (congrFun (read0 _ _) _).trans (keptG m c t h _ _ prev k l)) _
  hv e l := by
    rw [outsAt0_B m c t h h4]
    frame_out
    rw [pay15_at]
    exact dot_eq m c t _ l _ (fun k => (congrFun (read1 _ _) _).trans (keptV m c t h _ _ prev k l)) _

theorem inv_C (t : Fin cfg0.N) (h : ¬ t.val % 8 = 0) (h4 : t.val % 4 = 0) (hn) (hn')
    (prev : Inv m c (t.val - 1) hn hn') : Inv m c t.val t.isLt (lt_points t) where
  wg k l := by
    rw [outsAt0_C m c t h h4]
    exact keptG m c t h _ _ prev k l
  wv k l := by
    rw [outsAt0_C m c t h h4]
    exact keptV m c t h _ _ prev k l
  hg e l := by
    rw [outsAt0_C m c t h h4]
    frame_out
    rw [pay12_at]
    exact dot_eq m c t _ l _ (fun k => (congrFun (read0 _ _) _).trans (keptG m c t h _ _ prev k l)) _
  hv e l := by
    rw [outsAt0_C m c t h h4]
    frame_out
    rw [pay15_at]
    exact dot_eq m c t _ l _ (fun k => (congrFun (read1 _ _) _).trans (keptV m c t h _ _ prev k l)) _

/-- The carried scratch after every grid point. -/
theorem inv (n : ℕ) : ∀ (hn : n < cfg0.N) (hn' : n < 344), Inv m c n hn hn' := by
  induction n with
  | zero => exact fun hn _ => inv_A m c ⟨0, hn⟩ rfl
  | succ n ih =>
    intro hn hn'
    by_cases h : (n + 1) % 8 = 0
    · exact inv_A m c ⟨n + 1, hn⟩ h
    · by_cases h4 : (n + 1) % 4 = 0
      · exact inv_C m c ⟨n + 1, hn⟩ h h4 (by simp only [Nat.add_sub_cancel]; omega) (by simp only [Nat.add_sub_cancel]; omega) (ih _ _)
      · exact inv_B m c ⟨n + 1, hn⟩ h h4 (by simp only [Nat.add_sub_cancel]; omega) (by simp only [Nat.add_sub_cancel]; omega) (ih _ _)

variable (H : FVec Ideal S8192x4096 .bf16) (W : FVec Ideal S2x4096x22016 .f32)

/-- A row before, inside the same block. -/
theorem lag_in (n d : ℕ) (r q : Fin 1024) (hq : q.val + d = r.val) (j : Fin 22016) :
    lagAt H W (rowOf n r) j d = uAt H W (rowOf n q) j := by
  unfold lagAt
  rw [if_neg (by simp only; omega)]
  congr 1
  apply Fin.ext
  simp only
  omega

/-- A row before, among the last eight of the block before. -/
theorem lag_halo (n d : ℕ) (h4 : ¬ n % 4 = 0) (r : Fin 1024) (e : Fin 8) (he : e.val + d = 8 + r.val) (hd : d ≤ 8) (j : Fin 22016) :
    lagAt H W (rowOf n r) j d = uAt H W (rowOf (n - 1) ⟨1016 + e.val, by omega⟩) j := by
  unfold lagAt
  rw [if_neg (by simp only; omega)]
  congr 1
  apply Fin.ext
  simp only
  omega

/-- A row before the beginning of a sequence. -/
theorem lag_start (n d : ℕ) (h4 : n % 4 = 0) (r : Fin 1024) (e : Fin 8) (he : e.val + d = 8 + r.val) (j : Fin 22016) :
    lagAt H W (rowOf n r) j d = 0 := by
  unfold lagAt
  rw [if_pos (by simp only; omega)]

/-- A block's result is the reference's, where the scratch holds the point's weights and the rows carried are the rows before. -/
theorem out_eq (t : Fin cfg0.N) (wg wv : Vec Ideal S4096x256 .bf16) (hg hv : Vec Ideal S8x256 .f32) (r : Fin 1024) (l : Fin 256)
    (hwg : ∀ k : Fin 4096, wg (ix2 k l) = argW m c (ix3 (0 : Fin 2) k (colG t.val (lt_points t) l)))
    (hwv : ∀ k : Fin 4096, wv (ix2 k l) = argW m c (ix3 (0 : Fin 2) k (colV t.val (lt_points t) l)))
    (hhg : ∀ (d : ℕ) (e : Fin 8), e.val + d = 8 + r.val → d ≤ 8 → hg (ix2 e l) = lagAt (argH m c) (argW m c) (rowOf t.val r) (colG t.val (lt_points t) l) d)
    (hhv : ∀ (d : ℕ) (e : Fin 8), e.val + d = 8 + r.val → d ≤ 8 → hv (ix2 e l) = lagAt (argH m c) (argW m c) (rowOf t.val r) (colV t.val (lt_points t) l) d) :
    k0_pay1 (F := Ideal) (k0_pay14 (iblk m c 0 t) wv hv (iblk m c 4 t)) (k0_pay16 (k0_pay9 (iblk m c 0 t) wg hg (iblk m c 3 t)) (k0_pay10 (iblk m c 3 t)) (k0_pay11 (iblk m c 0 t) wg hg)) (ix2 r l)
      = ref (argH m c) (argW m c) (argC m c) (ix2 (rowOf t.val r) (⟨t.val / 8 * 256 + l.val, by have := lt_points t; omega⟩ : Fin 11008)) := by
  have dg := dot_eq m c t wg l _ hwg
  have dv := dot_eq m c t wv l _ hwv
  rw [ref_at, pay1_at,
    pay16_at _ _ _ _ _ _ (lagAt (argH m c) (argW m c) (rowOf t.val r) (colG t.val (lt_points t) l) 1) (lagAt (argH m c) (argW m c) (rowOf t.val r) (colG t.val (lt_points t) l) 2)
      (fun e he => hhg 1 e (by omega) (by omega)) (fun q hq => (dg q).trans (lag_in _ _ _ 1 r q (by omega) _).symm)
      (fun e he => hhg 2 e (by omega) (by omega)) (fun q hq => (dg q).trans (lag_in _ _ _ 2 r q (by omega) _).symm),
    pay14_at _ _ _ _ _ _ (lagAt (argH m c) (argW m c) (rowOf t.val r) (colV t.val (lt_points t) l) 1) (lagAt (argH m c) (argW m c) (rowOf t.val r) (colV t.val (lt_points t) l) 2)
      (fun e he => hhv 1 e (by omega) (by omega)) (fun q hq => (dv q).trans (lag_in _ _ _ 1 r q (by omega) _).symm)
      (fun e he => hhv 2 e (by omega) (by omega)) (fun q hq => (dv q).trans (lag_in _ _ _ 2 r q (by omega) _).symm),
    dg, dv, blk3, blk3, blk3, blk4, blk4, blk4]
  rfl

theorem zeroG (e : Fin 8) (l : Fin 256) : k0_pay4 (F := Ideal) (ix2 e l) = (0 : EReal) := by
  pointwise [k0_pay4]
theorem zeroV (e : Fin 8) (l : Fin 256) : k0_pay5 (F := Ideal) (ix2 e l) = (0 : EReal) := by
  pointwise [k0_pay5]

/-- What a grid point writes is the reference's block. -/
theorem point (t : Fin cfg0.N) (r : Fin 1024) (l : Fin 256) :
    (outsAt0 m c t.val t.isLt).1 (ix2 r l)
      = ref (argH m c) (argW m c) (argC m c) (ix2 (rowOf t.val r) (⟨t.val / 8 * 256 + l.val, by have := lt_points t; omega⟩ : Fin 11008)) := by
  have hp : t.val - 1 < 344 := Nat.lt_of_le_of_lt (Nat.sub_le _ _) (lt_points t)
  have prev := inv m c (t.val - 1) (Nat.lt_of_le_of_lt (Nat.sub_le _ _) t.isLt) hp
  by_cases h : t.val % 8 = 0
  · rw [outsAt0_A m c t h (by omega)]
    frame_out
    exact out_eq m c t _ _ _ _ r l (fun k => castG m c t k l) (fun k => castV m c t k l)
      (fun d e he _ => (zeroG e l).trans (lag_start _ _ _ d (by omega) r e he _).symm)
      (fun d e he _ => (zeroV e l).trans (lag_start _ _ _ d (by omega) r e he _).symm)
  · by_cases h4 : t.val % 4 = 0
    · rw [outsAt0_C m c t h h4]
      frame_out
      exact out_eq m c t _ _ _ _ r l (fun k => (congrFun (read0 _ _) _).trans (keptG m c t h _ _ prev k l)) (fun k => (congrFun (read1 _ _) _).trans (keptV m c t h _ _ prev k l))
        (fun d e he _ => (zeroG e l).trans (lag_start _ _ _ d (by omega) r e he _).symm)
        (fun d e he _ => (zeroV e l).trans (lag_start _ _ _ d (by omega) r e he _).symm)
    · have q : (t.val - 1) / 8 = t.val / 8 := by omega
      rw [outsAt0_B m c t h h4]
      frame_out
      refine out_eq m c t _ _ _ _ r l (fun k => (congrFun (read0 _ _) _).trans (keptG m c t h _ _ prev k l)) (fun k => (congrFun (read1 _ _) _).trans (keptV m c t h _ _ prev k l))
        (fun d e he hd => (congrFun (read2 _ _) _).trans ((prev.hg e l).trans ?_))
        (fun d e he hd => (congrFun (read3 _ _) _).trans ((prev.hv e l).trans ?_))
      · rw [lag_halo _ _ _ d h4 r e he hd]
        simp only [colG, q]
      · rw [lag_halo _ _ _ d h4 r e he hd]
        simp only [colV, q]

/-- The kernel's result array is the reference's. -/
theorem final : (dats m 0 c).arrAt 5 (cfgs 0).N = ref (argH m c) (argW m c) (argC m c) := by
  refine (dats m 0 c).arrAt_eq_of_covers 5 _ (by decide +kernel) fun t _ y => ?_
  blk_simp
  rw [after0_5]
  idx_vars y
  refine (point m c t _ _).trans ?_
  blk_ext [idx t]

theorem res_eq (m' : (ℓ : Loc Cert.UpRefIdeal.nD Cert.UpRefIdeal.τ Cert.UpRefIdeal.sig) → Buf (Elt Ideal) ℓ) :
    Cert.UpRefIdeal.Value.res_main_v39 m' c = ref (m' ((c.tc : Thread Cert.UpRefIdeal.nD Cert.UpRefIdeal.τ).loc Cert.UpRefIdeal.main_arg0))
      (m' ((c.tc : Thread Cert.UpRefIdeal.nD Cert.UpRefIdeal.τ).loc Cert.UpRefIdeal.main_arg1)) (m' ((c.tc : Thread Cert.UpRefIdeal.nD Cert.UpRefIdeal.τ).loc Cert.UpRefIdeal.main_arg2)) := rfl

end Cert.Proof.UpIdeal

end
-- ==== Proof.Claims.Up.lean ====
/-
  The FFN up projection's claims: the frames of the kernel and of the reference, and the equality of their results.
-/
module

public import proofs.«01_k».proof.Proof.Gen.Up.Frame
public import proofs.«01_k».proof.Proof.UpIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem up_frame : Cert.quiescent_Up (hUp := Cert.Up.Gen.facts) :=
  fun m ρ _ => Cert.Up.Gen.frame m ρ

/-- The idealized kernel's frame. -/
theorem upIdeal_frame : Cert.quiescent_UpIdeal (hUpIdeal := Cert.UpIdeal.Gen.facts) :=
  fun m ρ _ => Cert.UpIdeal.Gen.frame m ρ

/-- The idealized reference's frame. -/
theorem upRef_frame : Cert.quiescent_UpRefIdeal (hUpRefIdeal := Cert.UpRefIdeal.Gen.facts) := fun m g _ =>
  θ_run_and (by run_from Cert.UpRefIdeal.Value.run m g)
    ((θ_run _ _ _).mono (fun r _ => Idealize.ShloMosaic.sem_eq_zero_of_no_sems (by decide) r.2) (Cert.UpRefIdeal.Value.run m g))

/-- The kernel's result is the reference's. -/
theorem up_algebraic : Cert.algebraic_UpIdeal_UpRefIdeal (hUpIdeal := Cert.UpIdeal.Gen.facts) (hUpRefIdeal := Cert.UpRefIdeal.Gen.facts) := by
  pair_intro
  · run_from Cert.UpIdeal.Value.run_blocks m g
  · run_from Cert.UpRefIdeal.Value.run m' g'
    rw [Cert.Proof.UpIdeal.res_eq, (hagree c).1, (hagree c).2.1, (hagree c).2.2]
    exact (Cert.Proof.UpIdeal.final m c).symm

end Cert.Proof.Claims

end
-- ==== Proof.DownIdeal.Value.lean ====
/-
  The FFN down projection's result array over the extended reals is the plain reference's.
-/
module

public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

namespace Cert.Proof.DownIdeal

open Cert.DownIdeal Cert.DownIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 32, 0] ∧ win0_1.index t = ![0, 0, t.val / 32]
    ∧ win0_2.index t = ![t.val % 32, t.val / 32] ∧ win0_3.index t = ![t.val % 32 / 16, 0, t.val / 32]
    ∧ win0_4.index t = ![t.val % 32, t.val / 32] ∧ t.val < 512 :=
  (by decide +kernel : ∀ t : Fin grid0.N, _)

variable (m : (ℓ : Loc nD τ sig) → Buf (Elt Ideal) ℓ) (c : Dev nD)

/-- The left operand, as the run finds it. -/
abbrev argA : FVec Ideal S8192x11008 .bf16 := m ((c : Thread nD τ).loc main_arg0)
/-- The weights, as the run finds them. -/
abbrev argW : FVec Ideal S2x11008x4096 .f32 := m ((c : Thread nD τ).loc main_arg1)
/-- The residual stream, as the run finds it. -/
abbrev argX : FVec Ideal S8192x4096 .f32 := m ((c : Thread nD τ).loc main_arg2)
/-- The modulation rows, as the run finds them. -/
abbrev argG : FVec Ideal S2x6x4096 .f32 := m ((c : Thread nD τ).loc main_arg3)

variable (A : FVec Ideal S8192x11008 .bf16) (W : FVec Ideal S2x11008x4096 .f32) (X : FVec Ideal S8192x4096 .f32) (G : FVec Ideal S2x6x4096 .f32)

/-- The reference's product of the left operand by the weights. -/
def prod : FVec Ideal Cert.DownRefIdeal.S8192x4096 .f32 :=
  Host.dotGeneral Cert.DownRefIdeal.dot_S8192x11008_S11008x4096_S8192x4096_1_0_0_1_n_n none (extf .f32 A Cert.DownRefIdeal.Gen.bitsLt_bf16_f32)
    (shapeCast _ (extractStridedSlice Cert.DownRefIdeal.S1x11008x4096 ![0, 0, 0] W Cert.DownRefIdeal.Gen.slices_S2x11008x4096_S1x11008x4096_0_0_0) Cert.DownRefIdeal.Gen.shapeCasts_S1x11008x4096_S11008x4096)

/-- The reference's gate, the same for every position of a sequence. -/
def gates : FVec Ideal Cert.DownRefIdeal.S2x4096x4096 .f32 :=
  broadcastInDim Cert.DownRefIdeal.S2x4096x4096 ![0, 1, 2] Cert.DownRefIdeal.Gen.bcast_S2x1x4096_S2x4096x4096_0_1_2
    (broadcastInDim Cert.DownRefIdeal.S2x1x4096 ![0, 2] Cert.DownRefIdeal.Gen.bcast_S2x4096_S2x1x4096_0_2
      (shapeCast _ (extractStridedSlice Cert.DownRefIdeal.S2x1x4096 ![0, 5, 0] G Cert.DownRefIdeal.Gen.slices_S2x6x4096_S2x1x4096_0_5_0) Cert.DownRefIdeal.Gen.shapeCasts_S2x1x4096_S2x4096))

/-- The reference's result: the residual stream plus the gated product. -/
def ref : FVec Ideal Cert.DownRefIdeal.S8192x4096 .f32 :=
  shapeCast _ (addf (shapeCast _ X Cert.DownRefIdeal.Gen.shapeCasts_S8192x4096_S2x4096x4096)
    (mulf (gates G) (shapeCast _ (prod A W) Cert.DownRefIdeal.Gen.shapeCasts_S8192x4096_S2x4096x4096))) Cert.DownRefIdeal.Gen.shapeCasts_S2x4096x4096_S8192x4096

theorem prod_at (r : Fin 8192) (j : Fin 4096) :
    prod A W (ix2 r j) = ∑ k : Fin 11008, A (ix2 r k) * W (ix3 (0 : Fin 2) k j) := by
  pointwise [prod]
  blk_ext

theorem gates_at (b : Fin 2) (s j : Fin 4096) : gates G (ix3 b s j) = G (ix3 b (⟨5, by omega⟩ : Fin 6) j) := by
  pointwise [gates]
  blk_ext

theorem ref_at (r : Fin 8192) (j : Fin 4096) :
    ref A W X G (ix2 r j) = X (ix2 r j) + G (ix3 (⟨r.val / 4096, by omega⟩ : Fin 2) (⟨5, by omega⟩ : Fin 6) j)
      * ∑ k : Fin 11008, A (ix2 r k) * W (ix3 (0 : Fin 2) k j) := by
  pointwise [ref, gates_at, prod_at]
  blk_ext

/-- The left operand's block at a grid point. -/
theorem blk0 (t : Fin cfg0.N) (r : Fin 256) (k : Fin 11008) :
    (iblk m c 0 t : FVec Ideal S256x11008 .bf16) (ix2 r k)
      = argA m c (ix2 (⟨t.val % 32 * 256 + r.val, by omega⟩ : Fin 8192) k) := by
  blk_point [iblk, V, idx t]

/-- The weights' block at a grid point. -/
theorem blk1 (t : Fin cfg0.N) (k : Fin 11008) (j : Fin 256) :
    (iblk m c 1 t : FVec Ideal S1x11008x256 .f32) (ix3 (0 : Fin 1) k j)
      = argW m c (ix3 (0 : Fin 2) k (⟨t.val / 32 * 256 + j.val, by have := (idx t).2.2.2.2.2; omega⟩ : Fin 4096)) := by
  blk_point [iblk, V, idx t]

/-- The residual stream's block at a grid point. -/
theorem blk2 (t : Fin cfg0.N) (r : Fin 256) (j : Fin 256) :
    (iblk m c 2 t : FVec Ideal S256x256 .f32) (ix2 r j)
      = argX m c (ix2 (⟨t.val % 32 * 256 + r.val, by omega⟩ : Fin 8192) (⟨t.val / 32 * 256 + j.val, by have := (idx t).2.2.2.2.2; omega⟩ : Fin 4096)) := by
  blk_point [iblk, V, idx t]

/-- The modulation rows' block at a grid point. -/
theorem blk3 (t : Fin cfg0.N) (g : Fin 6) (j : Fin 256) :
    (iblk m c 3 t : FVec Ideal S1x6x256 .f32) (ix3 (0 : Fin 1) g j)
      = argG m c (ix3 (⟨t.val % 32 / 16, by omega⟩ : Fin 2) g (⟨t.val / 32 * 256 + j.val, by have := (idx t).2.2.2.2.2; omega⟩ : Fin 4096)) := by
  blk_point [iblk, V, idx t]

/-- After every point the carried scratch holds the point's column tile of the weights. -/
theorem scratch (n : ℕ) : ∀ (hn : n < cfg0.N) (k : Fin 11008) (j : Fin 256),
    (outsAt0 m c n hn).2 (ix2 k j) = argW m c (ix3 (0 : Fin 2) k (⟨n / 32 * 256 + j.val, by have := (idx ⟨n, hn⟩).2.2.2.2.2; simp only at this; omega⟩ : Fin 4096)) := by
  induction n with
  | zero =>
    intro hn k j
    rw [outsAt0_A m c ⟨0, hn⟩ rfl]
    frame_out
    pointwise [k0_pay1]
    refine (blk1 m c ⟨0, hn⟩ k j).trans ?_
    blk_ext
  | succ n ih =>
    intro hn k j
    by_cases h : (n + 1) % 32 = 0
    · rw [outsAt0_A m c ⟨n + 1, hn⟩ h]
      frame_out
      pointwise [k0_pay1]
      exact blk1 m c ⟨n + 1, hn⟩ k j
    · rw [outsAt0_B m c ⟨n + 1, hn⟩ h]
      refine (ih (by omega) k j).trans ?_
      have : n / 32 = (n + 1) / 32 := by omega
      simp only [this]

/-- The kernel's result array is the reference's. -/
theorem final : (dats m 0 c).arrAt 4 (cfgs 0).N = ref (argA m c) (argW m c) (argX m c) (argG m c) := by
  refine (dats m 0 c).arrAt_eq_of_covers 4 _ (by decide +kernel) fun t _ y => ?_
  blk_simp
  rw [after0_4]
  have ht := (idx t).2.2.2.2.2
  idx_vars y
  refine Eq.trans (b := ref (argA m c) (argW m c) (argX m c) (argG m c) (ix2 (⟨t.val % 32 * 256 + y0.val, by omega⟩ : Fin 8192) (⟨t.val / 32 * 256 + y1.val, by omega⟩ : Fin 4096))) ?_ (by blk_ext [idx t])
  rw [ref_at]
  have hb : (t.val % 32 * 256 + y0.val) / 4096 = t.val % 32 / 16 := by omega
  simp only [hb]
  by_cases h : t.val % 32 = 0
  · rw [outsAt0_A m c t h]
    frame_out
    pointwise [k0_pay2, k0_pay1]
    rw [blk2, blk3]
    refine congrArg _ (congrArg _ (Finset.sum_congr rfl fun k _ => ?_))
    rw [blk0, blk1]
  · rw [outsAt0_B m c t h]
    frame_out
    pointwise [k0_pay2]
    rw [blk2, blk3]
    refine congrArg _ (congrArg _ (Finset.sum_congr rfl fun k _ => ?_))
    rw [blk0]
    refine congrArg _ ((congrFun (Memref.IsWhole.read_unread (m := Memref.whole cc0_scratch0) _ _) _).trans ?_)
    refine (scratch m c (t.val - 1) _ k y1).trans ?_
    have : (t.val - 1) / 32 = t.val / 32 := by omega
    simp only [this]

end Cert.Proof.DownIdeal

end
-- ==== Proof.Claims.Down.lean ====
/-
  The FFN down projection's claims: the frames of the kernel and of the reference, and the equality of their results.
-/
module

public import proofs.«01_k».proof.Proof.Gen.Down.Frame
public import proofs.«01_k».proof.Proof.DownIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem down_frame : Cert.quiescent_Down (hDown := Cert.Down.Gen.facts) :=
  fun m ρ _ => Cert.Down.Gen.frame m ρ

/-- The idealized kernel's frame. -/
theorem downIdeal_frame : Cert.quiescent_DownIdeal (hDownIdeal := Cert.DownIdeal.Gen.facts) :=
  fun m ρ _ => Cert.DownIdeal.Gen.frame m ρ

/-- The idealized reference's frame. -/
theorem downRef_frame : Cert.quiescent_DownRefIdeal (hDownRefIdeal := Cert.DownRefIdeal.Gen.facts) := fun m g _ =>
  θ_run_and (by run_from Cert.DownRefIdeal.Value.run m g)
    ((θ_run _ _ _).mono (fun r _ => Idealize.ShloMosaic.sem_eq_zero_of_no_sems (by decide) r.2) (Cert.DownRefIdeal.Value.run m g))

/-- The kernel's result is the reference's. -/
theorem down_algebraic : Cert.algebraic_DownIdeal_DownRefIdeal (hDownIdeal := Cert.DownIdeal.Gen.facts) (hDownRefIdeal := Cert.DownRefIdeal.Gen.facts) := by
  pair_intro
  · run_from Cert.DownIdeal.Value.run_blocks m g
  · run_from Cert.DownRefIdeal.Value.run m' g'
    exact (Cert.Proof.DownIdeal.final m c).symm

end Cert.Proof.Claims

end
-- ==== Proof.OutIdeal.Value.lean ====
/-
  The output projection's result array over the extended reals is the plain reference's.
-/
module

public import proofs.«01_k».proof.Proof.Gen.OutIdeal.Value
public import proofs.«01_k».proof.Proof.Gen.OutRefIdeal.Run
public import Idealize.ShloMosaic.Lib.Pipeline.ValueKit

@[expose] public section

set_option maxRecDepth 16384

noncomputable section

namespace Cert.Proof.OutIdeal

open Cert.OutIdeal Cert.OutIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 8, 0] ∧ win0_1.index t = ![0, 0, t.val / 8]
    ∧ win0_2.index t = ![t.val % 8, t.val / 8] ∧ win0_3.index t = ![t.val % 8 / 4, 0, t.val / 8]
    ∧ win0_4.index t = ![t.val % 8, t.val / 8] ∧ t.val < 64 :=
  (by decide +kernel : ∀ t : Fin grid0.N, _)

variable (m : (ℓ : Loc nD τ sig) → Buf (Elt Ideal) ℓ) (c : Dev nD)

/-- The left operand, as the run finds it. -/
abbrev argA : FVec Ideal S8192x4096 .bf16 := m ((c : Thread nD τ).loc main_arg0)
/-- The weights, as the run finds them. -/
abbrev argW : FVec Ideal S1x4096x4096 .f32 := m ((c : Thread nD τ).loc main_arg1)
/-- The residual stream, as the run finds it. -/
abbrev argX : FVec Ideal S8192x4096 .f32 := m ((c : Thread nD τ).loc main_arg2)
/-- The modulation rows, as the run finds them. -/
abbrev argG : FVec Ideal S2x6x4096 .f32 := m ((c : Thread nD τ).loc main_arg3)

variable (A : FVec Ideal S8192x4096 .bf16) (W : FVec Ideal S1x4096x4096 .f32) (X : FVec Ideal S8192x4096 .f32) (G : FVec Ideal S2x6x4096 .f32)

/-- The reference's product of the left operand by the weights. -/
def prod : FVec Ideal Cert.OutRefIdeal.S8192x4096 .f32 :=
  Host.dotGeneral Cert.OutRefIdeal.dot_S8192x4096_S4096x4096_S8192x4096_1_0_0_1_n_n none (extf .f32 A Cert.OutRefIdeal.Gen.bitsLt_bf16_f32)
    (shapeCast _ W Cert.OutRefIdeal.Gen.shapeCasts_S1x4096x4096_S4096x4096)

/-- The reference's gate, the same for every position of a sequence. -/
def gates : FVec Ideal Cert.OutRefIdeal.S2x4096x4096 .f32 :=
  broadcastInDim Cert.OutRefIdeal.S2x4096x4096 ![0, 1, 2] Cert.OutRefIdeal.Gen.bcast_S2x1x4096_S2x4096x4096_0_1_2
    (broadcastInDim Cert.OutRefIdeal.S2x1x4096 ![0, 2] Cert.OutRefIdeal.Gen.bcast_S2x4096_S2x1x4096_0_2
      (shapeCast _ (extractStridedSlice Cert.OutRefIdeal.S2x1x4096 ![0, 2, 0] G Cert.OutRefIdeal.Gen.slices_S2x6x4096_S2x1x4096_0_2_0) Cert.OutRefIdeal.Gen.shapeCasts_S2x1x4096_S2x4096))

/-- The reference's result: the residual stream plus the gated product. -/
def ref : FVec Ideal Cert.OutRefIdeal.S8192x4096 .f32 :=
  shapeCast _ (addf (shapeCast _ X Cert.OutRefIdeal.Gen.shapeCasts_S8192x4096_S2x4096x4096)
    (mulf (gates G) (shapeCast _ (prod A W) Cert.OutRefIdeal.Gen.shapeCasts_S8192x4096_S2x4096x4096))) Cert.OutRefIdeal.Gen.shapeCasts_S2x4096x4096_S8192x4096

theorem prod_at (r : Fin 8192) (j : Fin 4096) :
    prod A W (ix2 r j) = ∑ k : Fin 4096, A (ix2 r k) * W (ix3 (0 : Fin 1) k j) := by
  pointwise [prod]
  blk_ext

theorem gates_at (b : Fin 2) (s j : Fin 4096) : gates G (ix3 b s j) = G (ix3 b (⟨2, by omega⟩ : Fin 6) j) := by
  pointwise [gates]
  blk_ext

theorem ref_at (r : Fin 8192) (j : Fin 4096) :
    ref A W X G (ix2 r j) = X (ix2 r j) + G (ix3 (⟨r.val / 4096, by omega⟩ : Fin 2) (⟨2, by omega⟩ : Fin 6) j)
      * ∑ k : Fin 4096, A (ix2 r k) * W (ix3 (0 : Fin 1) k j) := by
  pointwise [ref, gates_at, prod_at]
  blk_ext

/-- The left operand's block at a grid point. -/
theorem blk0 (t : Fin cfg0.N) (r : Fin 1024) (k : Fin 4096) :
    (iblk m c 0 t : FVec Ideal S1024x4096 .bf16) (ix2 r k)
      = argA m c (ix2 (⟨t.val % 8 * 1024 + r.val, by omega⟩ : Fin 8192) k) := by
  blk_point [iblk, V, idx t]

/-- The weights' block at a grid point. -/
theorem blk1 (t : Fin cfg0.N) (k : Fin 4096) (j : Fin 512) :
    (iblk m c 1 t : FVec Ideal S1x4096x512 .f32) (ix3 (0 : Fin 1) k j)
      = argW m c (ix3 (0 : Fin 1) k (⟨t.val / 8 * 512 + j.val, by have := (idx t).2.2.2.2.2; omega⟩ : Fin 4096)) := by
  blk_point [iblk, V, idx t]

/-- The residual stream's block at a grid point. -/
theorem blk2 (t : Fin cfg0.N) (r : Fin 1024) (j : Fin 512) :
    (iblk m c 2 t : FVec Ideal S1024x512 .f32) (ix2 r j)
      = argX m c (ix2 (⟨t.val % 8 * 1024 + r.val, by omega⟩ : Fin 8192) (⟨t.val / 8 * 512 + j.val, by have := (idx t).2.2.2.2.2; omega⟩ : Fin 4096)) := by
  blk_point [iblk, V, idx t]

/-- The modulation rows' block at a grid point. -/
theorem blk3 (t : Fin cfg0.N) (g : Fin 6) (j : Fin 512) :
    (iblk m c 3 t : FVec Ideal S1x6x512 .f32) (ix3 (0 : Fin 1) g j)
      = argG m c (ix3 (⟨t.val % 8 / 4, by omega⟩ : Fin 2) g (⟨t.val / 8 * 512 + j.val, by have := (idx t).2.2.2.2.2; omega⟩ : Fin 4096)) := by
  blk_point [iblk, V, idx t]

/-- After every point the carried scratch holds the point's column tile of the weights. -/
theorem scratch (n : ℕ) : ∀ (hn : n < cfg0.N) (k : Fin 4096) (j : Fin 512),
    (outsAt0 m c n hn).2 (ix2 k j) = argW m c (ix3 (0 : Fin 1) k (⟨n / 8 * 512 + j.val, by have := (idx ⟨n, hn⟩).2.2.2.2.2; simp only at this; omega⟩ : Fin 4096)) := by
  induction n with
  | zero =>
    intro hn k j
    rw [outsAt0_A m c ⟨0, hn⟩ rfl]
    frame_out
    pointwise [k0_pay1]
    refine (blk1 m c ⟨0, hn⟩ k j).trans ?_
    blk_ext
  | succ n ih =>
    intro hn k j
    by_cases h : (n + 1) % 8 = 0
    · rw [outsAt0_A m c ⟨n + 1, hn⟩ h]
      frame_out
      pointwise [k0_pay1]
      exact blk1 m c ⟨n + 1, hn⟩ k j
    · rw [outsAt0_B m c ⟨n + 1, hn⟩ h]
      refine (ih (by omega) k j).trans ?_
      have : n / 8 = (n + 1) / 8 := by omega
      simp only [this]

/-- The kernel's result array is the reference's. -/
theorem final : (dats m 0 c).arrAt 4 (cfgs 0).N = ref (argA m c) (argW m c) (argX m c) (argG m c) := by
  refine (dats m 0 c).arrAt_eq_of_covers 4 _ (by decide +kernel) fun t _ y => ?_
  blk_simp
  rw [after0_4]
  have ht := (idx t).2.2.2.2.2
  idx_vars y
  refine Eq.trans (b := ref (argA m c) (argW m c) (argX m c) (argG m c) (ix2 (⟨t.val % 8 * 1024 + y0.val, by omega⟩ : Fin 8192) (⟨t.val / 8 * 512 + y1.val, by omega⟩ : Fin 4096))) ?_ (by blk_ext [idx t])
  rw [ref_at]
  have hb : (t.val % 8 * 1024 + y0.val) / 4096 = t.val % 8 / 4 := by omega
  simp only [hb]
  by_cases h : t.val % 8 = 0
  · rw [outsAt0_A m c t h]
    frame_out
    pointwise [k0_pay2, k0_pay1]
    rw [blk2, blk3]
    refine congrArg _ (congrArg _ (Finset.sum_congr rfl fun k _ => ?_))
    rw [blk0, blk1]
  · rw [outsAt0_B m c t h]
    frame_out
    pointwise [k0_pay2]
    rw [blk2, blk3]
    refine congrArg _ (congrArg _ (Finset.sum_congr rfl fun k _ => ?_))
    rw [blk0]
    refine congrArg _ ((congrFun (Memref.IsWhole.read_unread (m := Memref.whole cc0_scratch0) _ _) _).trans ?_)
    refine (scratch m c (t.val - 1) _ k y1).trans ?_
    have : (t.val - 1) / 8 = t.val / 8 := by omega
    simp only [this]

end Cert.Proof.OutIdeal

end
-- ==== Proof.Claims.Out.lean ====
/-
  The output projection's claims: the frames of the kernel and of the reference, and the equality of their results.
-/
module

public import proofs.«01_k».proof.Proof.Gen.Out.Frame
public import proofs.«01_k».proof.Proof.OutIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem out_frame : Cert.quiescent_Out (hOut := Cert.Out.Gen.facts) :=
  fun m ρ _ => Cert.Out.Gen.frame m ρ

/-- The idealized kernel's frame. -/
theorem outIdeal_frame : Cert.quiescent_OutIdeal (hOutIdeal := Cert.OutIdeal.Gen.facts) :=
  fun m ρ _ => Cert.OutIdeal.Gen.frame m ρ

/-- The idealized reference's frame. -/
theorem outRef_frame : Cert.quiescent_OutRefIdeal (hOutRefIdeal := Cert.OutRefIdeal.Gen.facts) := fun m g _ =>
  θ_run_and (by run_from Cert.OutRefIdeal.Value.run m g)
    ((θ_run _ _ _).mono (fun r _ => Idealize.ShloMosaic.sem_eq_zero_of_no_sems (by decide) r.2) (Cert.OutRefIdeal.Value.run m g))

/-- The kernel's result is the reference's. -/
theorem out_algebraic : Cert.algebraic_OutIdeal_OutRefIdeal (hOutIdeal := Cert.OutIdeal.Gen.facts) (hOutRefIdeal := Cert.OutRefIdeal.Gen.facts) := by
  pair_intro
  · run_from Cert.OutIdeal.Value.run_blocks m g
  · run_from Cert.OutRefIdeal.Value.run m' g'
    exact (Cert.Proof.OutIdeal.final m c).symm

end Cert.Proof.Claims

end
-- ==== Proof.InprojIdeal.Pays.lean ====
/-
  The attention input projection's payloads, read at an index.
-/
module

public import proofs.«01_k».proof.Proof.Gen.InprojIdeal.Skeleton
public import Idealize.ShloMosaic.Lib.Pipeline.ValueKit

@[expose] public section

set_option maxRecDepth 16384

noncomputable section

namespace Cert.Proof.InprojIdeal

open Cert.InprojIdeal Cert.InprojIdeal.Gen
open Idealize.ShloMosaic Idealize.ShloMosaic.TcCoe Idealize.SL.Sem

variable (a : Vec Ideal S1024x4096 .bf16) (w : Vec Ideal S4096x512 .bf16) (p : FVec Ideal S1024x512 .f32) (g : Vec Ideal S1x128 .f32)

/-- The root mean square normalisation of one head's 128 entries, at entry `d`, with gain `g`. -/
def normAt (x : Fin 128 → EReal) (g : EReal) (d : Fin 128) : EReal :=
  x d * Ideal.rsqrt (Ideal.div (∑ e : Fin 128, x e * x e) (Ideal.ofBits .f32 0x43000000#32) + Ideal.ofBits .f32 0x358637BD#32) * g

/-- The factor of the queries. -/
def factor : EReal := Ideal.ofBits .f32 0x3DB504F3#32

/-- The block's product, row `r` and column `l`. -/
def dotAt (r : Fin 1024) (l : Fin 512) : EReal := ∑ k : Fin 4096, (a (ix2 r k) : EReal) * w (ix2 k l)

/-- The plain product at an index. -/
theorem pay2_at (r : Fin 1024) (l : Fin 512) : k0_pay2 (F := Ideal) a w (ix2 r l) = dotAt a w r l := by
  pointwise [k0_pay2]
  rfl

/-- The plain columns are stored as the product. -/
theorem pay7_at (r : Fin 1024) (l : Fin 512) : k0_pay7 (F := Ideal) a w (ix2 r l) = dotAt a w r l := by
  pointwise [k0_pay7]
  exact pay2_at a w r l

/-- The query tile at column 0. -/
theorem pay8_at (r : Fin 1024) (d : Fin 128) : k0_pay8 (F := Ideal) p g (ix2 r d)
    = normAt (fun e => p (ix2 r ⟨0 + e.val, by omega⟩)) (g (ix2 0 d)) d * factor := by
  pointwise [k0_pay8]
  simp only [normAt, factor, dotAt, Nat.zero_add]

/-- The query tile at column 128. -/
theorem pay9_at (r : Fin 1024) (d : Fin 128) : k0_pay9 (F := Ideal) p g (ix2 r d)
    = normAt (fun e => p (ix2 r ⟨128 + e.val, by omega⟩)) (g (ix2 0 d)) d * factor := by
  pointwise [k0_pay9]
  simp only [normAt, factor, dotAt, Nat.zero_add]

/-- The query tile at column 256. -/
theorem pay3_at (r : Fin 1024) (d : Fin 128) : k0_pay3 (F := Ideal) (k0_pay10 p) (k0_pay11 p) g (ix2 r d)
    = normAt (fun e => p (ix2 r ⟨256 + e.val, by omega⟩)) (g (ix2 0 d)) d * factor := by
  pointwise [k0_pay3, k0_pay10, k0_pay11]
  simp only [normAt, factor, dotAt, Nat.zero_add]

/-- The query tile at column 384. -/
theorem pay4_at (r : Fin 1024) (d : Fin 128) : k0_pay4 (F := Ideal) a w g (ix2 r d)
    = normAt (fun e => dotAt a w r ⟨384 + e.val, by omega⟩) (g (ix2 0 d)) d * factor := by
  pointwise [k0_pay4]
  simp only [normAt, factor, pay2_at]

/-- The key tile at column 0. -/
theorem pay12_at (r : Fin 1024) (d : Fin 128) : k0_pay12 (F := Ideal) p g (ix2 r d)
    = normAt (fun e => p (ix2 r ⟨0 + e.val, by omega⟩)) (g (ix2 0 d)) d := by
  pointwise [k0_pay12]
  simp only [normAt, factor, dotAt, Nat.zero_add]

/-- The key tile at column 128. -/
theorem pay13_at (r : Fin 1024) (d : Fin 128) : k0_pay13 (F := Ideal) p g (ix2 r d)
    = normAt (fun e => p (ix2 r ⟨128 + e.val, by omega⟩)) (g (ix2 0 d)) d := by
  pointwise [k0_pay13]
  simp only [normAt, factor, dotAt, Nat.zero_add]

/-- The key tile at column 256. -/
theorem pay5_at (r : Fin 1024) (d : Fin 128) : k0_pay5 (F := Ideal) (k0_pay14 p) (k0_pay15 p) k0_pay16 g (ix2 r d)
    = normAt (fun e => p (ix2 r ⟨256 + e.val, by omega⟩)) (g (ix2 0 d)) d := by
  pointwise [k0_pay5, k0_pay14, k0_pay15, k0_pay16]
  simp only [normAt, factor, dotAt, Nat.zero_add]

/-- The key tile at column 384. -/
theorem pay6_at (r : Fin 1024) (d : Fin 128) : k0_pay6 (F := Ideal) a w g (ix2 r d)
    = normAt (fun e => dotAt a w r ⟨384 + e.val, by omega⟩) (g (ix2 0 d)) d := by
  pointwise [k0_pay6]
  simp only [normAt, factor, pay2_at]

end Cert.Proof.InprojIdeal

end
-- ==== Proof.InprojIdeal.Ref.lean ====
/-
  The attention input projection's plain reference, read at an index.
-/
module

public import proofs.«01_k».proof.Proof.InprojIdeal.Pays
public import proofs.«01_k».proof.Proof.Gen.InprojRefIdeal.Run

@[expose] public section

set_option maxRecDepth 16384

noncomputable section

namespace Cert.Proof.InprojIdeal

open Cert.InprojRefIdeal Cert.InprojRefIdeal.Gen
open Idealize.ShloMosaic Idealize.ShloMosaic.TcCoe Idealize.SL.Sem

variable (H : FVec Ideal S8192x4096 .bf16) (W : FVec Ideal S1x4096x16416 .f32) (QG KG : FVec Ideal S128 .f32)

/-- The reference's product. -/
def proj : FVec Ideal S8192x16416 .f32 :=
  Host.dotGeneral dot_S8192x4096_S4096x16416_S8192x16416_1_0_0_1_n_n none (extf .f32 H bitsLt_bf16_f32) (shapeCast S4096x16416 W shapeCasts_S1x4096x16416_S4096x16416)

/-- The product of row `R` of the activations by column `j` of the weights. -/
def projAt (R : Fin 8192) (j : Fin 16416) : EReal := ∑ k : Fin 4096, (H (ix2 R k) : EReal) * W (ix3 (0 : Fin 1) k j)

theorem proj_at (R : Fin 8192) (j : Fin 16416) : proj H W (ix2 R j) = projAt H W R j := by
  pointwise [proj]
  rfl

/-- The inverse root mean square of every head. -/
def inv (x : FVec Ideal S8192x32x128 .f32) : FVec Ideal S8192x32x1 .f32 :=
  Host.rsqrt (addf (Host.divf (broadcastInDim S8192x32x1 ![0, 1] bcast_S8192x32_S8192x32x1_0_1
    (Host.reduceAdd (mulf x x) (constant S_ .f32 0x00000000#32) reducesTo_S8192x32x128_S8192x32_d2 h_S_))
    (broadcastInDim S8192x32x1 ![] bcast_S_S8192x32x1 (constant S_ .f32 0x43000000#32))) (broadcastInDim S8192x32x1 ![] bcast_S_S8192x32x1 (constant S_ .f32 0x358637BD#32)))

theorem inv_at (x : FVec Ideal S8192x32x128 .f32) (R : Fin 8192) (n : Fin 32) : inv x (ix3 R n (0 : Fin 1))
    = Ideal.rsqrt (Ideal.div (∑ e : Fin 128, x (ix3 R n e) * x (ix3 R n e)) (Ideal.ofBits .f32 0x43000000#32) + Ideal.ofBits .f32 0x358637BD#32) := by
  pointwise [inv]

/-- The normalised heads. -/
def normed (x : FVec Ideal S8192x4096 .f32) (g : FVec Ideal S128 .f32) : FVec Ideal S8192x4096 .f32 :=
  shapeCast S8192x4096 (mulf (mulf (shapeCast S8192x32x128 x shapeCasts_S8192x4096_S8192x32x128)
    (broadcastInDim S8192x32x128 ![0, 1, 2] bcast_S8192x32x1_S8192x32x128_0_1_2 (inv (shapeCast S8192x32x128 x shapeCasts_S8192x4096_S8192x32x128))))
    (broadcastInDim S8192x32x128 ![0, 1, 2] bcast_S1x1x128_S8192x32x128_0_1_2 (broadcastInDim S1x1x128 ![2] bcast_S128_S1x1x128_2 g))) shapeCasts_S8192x32x128_S8192x4096

theorem split_at (x : FVec Ideal S8192x4096 .f32) (R : Fin 8192) (n : Fin 32) (e : Fin 128) :
    shapeCast S8192x32x128 x shapeCasts_S8192x4096_S8192x32x128 (ix3 R n e) = x (ix2 R ⟨n.val * 128 + e.val, by omega⟩) := by
  pointwise
  blk_ext

theorem normed_at (x : FVec Ideal S8192x4096 .f32) (g : FVec Ideal S128 .f32) (R : Fin 8192) (j : Fin 4096) (n : Fin 32) (d : Fin 128) (hj : j.val = n.val * 128 + d.val) :
    normed x g (ix2 R j) = normAt (fun e => x (ix2 R ⟨n.val * 128 + e.val, by omega⟩)) (g (ix1 d)) d := by
  pointwise [normed]
  have hn : (⟨j.val / 128, by omega⟩ : Fin 32) = n := Fin.ext (show j.val / 128 = n.val by omega)
  have hd : (⟨j.val % 128, by omega⟩ : Fin 128) = d := Fin.ext (show j.val % 128 = d.val by omega)
  have hx : j = (⟨n.val * 128 + d.val, by omega⟩ : Fin 4096) := Fin.ext hj
  rw [hn, hd, inv_at]
  simp only [split_at]
  rw [hx]
  rfl

/-- The queries' and the keys' columns and the others. -/
def result : FVec Ideal S8192x16384 .bf16 :=
  truncf .bf16 (concatenate S8192x16384 1
    [⟨S8192x4096, (mulf (normed (extractStridedSlice S8192x4096 ![0, 0] (proj H W) slices_S8192x16416_S8192x4096_0_0) QG) (broadcastInDim S8192x4096 ![] bcast_S_S8192x4096 (constant S_ .f32 0x3DB504F3#32)) : FVec Ideal S8192x4096 .f32)⟩,
     ⟨S8192x4096, (normed (extractStridedSlice S8192x4096 ![0, 4096] (proj H W) slices_S8192x16416_S8192x4096_0_4096) KG : FVec Ideal S8192x4096 .f32)⟩,
     ⟨S8192x8192, (extractStridedSlice S8192x8192 ![0, 8192] (proj H W) slices_S8192x16416_S8192x8192_0_8192 : FVec Ideal S8192x8192 .f32)⟩]
    concatenates_S8192x4096_S8192x4096_S8192x8192_S8192x16384_d1) bitsLt_bf16_f32

theorem res_eq (m : (ℓ : Loc nD τ sig) → Buf (Elt Ideal) ℓ) (c : Dev nD) : Cert.InprojRefIdeal.Value.res_main_v39 m c
    = result (m ((c.tc : Thread nD τ).loc main_arg0)) (m ((c.tc : Thread nD τ).loc main_arg1)) (m ((c.tc : Thread nD τ).loc main_arg2)) (m ((c.tc : Thread nD τ).loc main_arg3)) := rfl

/-- A query entry of the reference, of head `n` at `d`. -/
theorem result_q (R : Fin 8192) (j : Fin 16384) (n : Fin 32) (d : Fin 128) (hj : j.val = n.val * 128 + d.val) :
    result H W QG KG (ix2 R j) = normAt (fun e => projAt H W R ⟨n.val * 128 + e.val, by omega⟩) (QG (ix1 d)) d * factor := by
  pointwise [result]
  rw [dif_pos (by omega), normed_at _ _ R _ n d hj]
  refine congrArg (· * factor) (congrArg (fun x => normAt x _ d) (funext fun e => ?_))
  pointwise
  rw [proj_at]

/-- A key entry of the reference, of head `n` at `d`. -/
theorem result_k (R : Fin 8192) (j : Fin 16384) (n : Fin 32) (d : Fin 128) (hj : j.val = 4096 + (n.val * 128 + d.val)) :
    result H W QG KG (ix2 R j) = normAt (fun e => projAt H W R ⟨4096 + (n.val * 128 + e.val), by omega⟩) (KG (ix1 d)) d := by
  pointwise [result]
  rw [dif_neg (by omega), dif_pos (by omega), normed_at _ _ R _ n d (by simp only; omega)]
  refine congrArg (fun x => normAt x _ d) (funext fun e => ?_)
  pointwise
  rw [proj_at]

/-- An entry of the other columns of the reference. -/
theorem result_rest (R : Fin 8192) (j : Fin 16384) (h : 8192 ≤ j.val) : result H W QG KG (ix2 R j) = projAt H W R ⟨j.val, by omega⟩ := by
  pointwise [result]
  rw [dif_neg (by omega), dif_neg (by omega), proj_at]
  refine congrArg (projAt H W R) (Fin.ext ?_)
  simp only
  omega

end Cert.Proof.InprojIdeal

end
-- ==== Proof.InprojIdeal.Value.lean ====
/-
  The attention input projection's result array over the extended reals is the plain reference's.
-/
module

public import proofs.«01_k».proof.Proof.Gen.InprojIdeal.Value
public import proofs.«01_k».proof.Proof.InprojIdeal.Ref
public import Idealize.ShloMosaic.Lib.Pipeline.ValueKit

@[expose] public section

set_option maxRecDepth 16384

noncomputable section

namespace Cert.Proof.InprojIdeal

open Cert.InprojIdeal Cert.InprojIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 8, 0] ∧ win0_1.index t = ![0, 0, t.val / 8]
    ∧ win0_2.index t = ![0, 0] ∧ win0_3.index t = ![0, 0]
    ∧ win0_4.index t = ![t.val % 8, t.val / 8] ∧ t.val < 256 :=
  (by decide +kernel : ∀ t : Fin grid0.N, _)

theorem lt_points (t : Fin cfg0.N) : t.val < 256 := (idx t).2.2.2.2.2

variable (m : (ℓ : Loc nD τ sig) → Buf (Elt Ideal) ℓ) (c : Dev nD)

/-- The activations, as the run finds them. -/
abbrev argH : FVec Ideal S8192x4096 .bf16 := m ((c : Thread nD τ).loc main_arg0)
/-- The weights, as the run finds them. -/
abbrev argW : FVec Ideal S1x4096x16416 .f32 := m ((c : Thread nD τ).loc main_arg1)
/-- The queries' gains, as the run finds them. -/
abbrev argQ : FVec Ideal S128 .f32 := m ((c : Thread nD τ).loc main_arg2)
/-- The keys' gains, as the run finds them. -/
abbrev argK : FVec Ideal S128 .f32 := m ((c : Thread nD τ).loc main_arg3)

/-- Row `r` of grid point `n`'s rows. -/
abbrev rowOf (n : ℕ) (r : Fin 1024) : Fin 8192 := ⟨n % 8 * 1024 + r.val, by omega⟩
/-- Column `l` of grid point `n`'s columns. -/
abbrev colOf (n : ℕ) (hn : n < 256) (l : Fin 512) : Fin 16416 := ⟨n / 8 * 512 + l.val, by omega⟩

theorem blk0 (t : Fin cfg0.N) (r : Fin 1024) (k : Fin 4096) :
    (iblk m c 0 t : FVec Ideal S1024x4096 .bf16) (ix2 r k) = argH m c (ix2 (rowOf t.val r) k) := by
  blk_point [iblk, V, idx t]
theorem blk1 (t : Fin cfg0.N) (k : Fin 4096) (l : Fin 512) :
    (X0_1 m c t : FVec Ideal S1x4096x512 .f32) (ix3 (0 : Fin 1) k l) = argW m c (ix3 (0 : Fin 1) k (colOf t.val (lt_points t) l)) := by
  unfold X0_1 Pipeline.Window.fill
  rw [dif_pos (moved0_1 t _)]
  blk_point [iblk, V, idx t]
theorem blk2 (t : Fin cfg0.N) (d : Fin 128) : (iblk m c 2 t : FVec Ideal S1x128 .f32) (ix2 (0 : Fin 1) d) = argQ m c (ix1 d) := by
  blk_point [iblk, V, idx t]
theorem blk3 (t : Fin cfg0.N) (d : Fin 128) : (iblk m c 3 t : FVec Ideal S1x128 .f32) (ix2 (0 : Fin 1) d) = argK m c (ix1 d) := by
  blk_point [iblk, V, idx t]

theorem cast_at (t : Fin cfg0.N) (k : Fin 4096) (l : Fin 512) :
    k0_pay1 (F := Ideal) (X0_1 m c t) (ix2 k l) = argW m c (ix3 (0 : Fin 1) k (colOf t.val (lt_points t) l)) := by
  pointwise [k0_pay1]
  exact blk1 m c t k l

/-- After every point the carried scratch holds the point's columns of the weights. -/
theorem scratch (n : ℕ) : ∀ (hn : n < cfg0.N) (hn' : n < 256) (k : Fin 4096) (l : Fin 512),
    (outsAt0 m c n hn).2 (ix2 k l) = argW m c (ix3 (0 : Fin 1) k (colOf n hn' l)) := by
  induction n with
  | zero =>
    intro hn hn' k l
    rw [outsAt0_A m c ⟨0, hn⟩ rfl (by simp only; omega) (by simp only; omega) (by simp only; omega)]
    frame_out
    exact cast_at m c ⟨0, hn⟩ k l
  | succ n ih =>
    intro hn hn' k l
    by_cases h : (n + 1) % 8 = 0
    · by_cases h1 : n + 1 < 64
      · rw [outsAt0_A m c ⟨n + 1, hn⟩ h h1 (by simp only; omega) (by simp only; omega)]
        frame_out
        exact cast_at m c ⟨n + 1, hn⟩ k l
      by_cases h3 : 128 ≤ n + 1
      · rw [outsAt0_E m c ⟨n + 1, hn⟩ h h1 (by simp only; omega) h3]
        frame_out
        exact cast_at m c ⟨n + 1, hn⟩ k l
      · rw [outsAt0_C m c ⟨n + 1, hn⟩ h h1 (by simp only; omega) h3]
        frame_out
        exact cast_at m c ⟨n + 1, hn⟩ k l
    · have keep : (outsAt0 m c n (by omega)).2 (ix2 k l) = argW m c (ix3 (0 : Fin 1) k (colOf (n + 1) hn' l)) := by
        rw [ih (by omega) (by omega)]
        have : n / 8 = (n + 1) / 8 := by omega
        simp only [colOf, this]
      by_cases h1 : n + 1 < 64
      · rw [outsAt0_B m c ⟨n + 1, hn⟩ h h1 (by simp only; omega) (by simp only; omega)]
        exact keep
      by_cases h3 : 128 ≤ n + 1
      · rw [outsAt0_F m c ⟨n + 1, hn⟩ h h1 (by simp only; omega) h3]
        exact keep
      · rw [outsAt0_D m c ⟨n + 1, hn⟩ h h1 (by simp only; omega) h3]
        exact keep

/-- Where the scratch is not renewed it still holds the point's columns. -/
theorem kept (t : Fin cfg0.N) (h : ¬ t.val % 8 = 0) (hn) (k : Fin 4096) (l : Fin 512) :
    (outsAt0 m c (t.val - 1) hn).2 (ix2 k l) = argW m c (ix3 (0 : Fin 1) k (colOf t.val (lt_points t) l)) := by
  have hv := lt_points t
  rw [scratch m c (t.val - 1) hn (by omega)]
  have : (t.val - 1) / 8 = t.val / 8 := by omega
  simp only [colOf, this]

/-- Reading a whole scratch gives what it holds. -/
theorem read0 (x : Vec Ideal S4096x512 .bf16) (hw : (Memref.whole cc0_scratch0).IsWhole) : View.read (Elt Ideal) (View.whole cc0_scratch0) (hw.unread x) = x :=
  Memref.IsWhole.read_unread (m := Memref.whole cc0_scratch0) _ _

/-- The block's product is the whole product's, where the scratch holds the point's columns of the weights. -/
theorem dot_eq (t : Fin cfg0.N) (w : Vec Ideal S4096x512 .bf16)
    (hw : ∀ (k : Fin 4096) (l : Fin 512), w (ix2 k l) = argW m c (ix3 (0 : Fin 1) k (colOf t.val (lt_points t) l))) (r : Fin 1024) (l : Fin 512) :
    dotAt (iblk m c 0 t) w r l = projAt (argH m c) (argW m c) (rowOf t.val r) (colOf t.val (lt_points t) l) := by
  unfold dotAt projAt
  refine Finset.sum_congr rfl fun k _ => ?_
  rw [blk0, hw]

/-- The reference at row `r` and column `l` of a grid point's block. -/
abbrev refAt (t : Fin cfg0.N) (r : Fin 1024) (l : Fin 512) : EReal :=
  result (argH m c) (argW m c) (argQ m c) (argK m c) (ix2 (rowOf t.val r) (⟨t.val / 8 * 512 + l.val, by have := lt_points t; omega⟩ : Fin 16384))

/-- A query tile's entry is the reference's. -/
theorem tile_q (t : Fin cfg0.N) (h1 : t.val < 64) (x : Fin 128 → EReal) (s : Fin 4) (r : Fin 1024) (d : Fin 128) (l : Fin 512) (hl : l.val = s.val * 128 + d.val)
    (hx : ∀ e : Fin 128, x e = projAt (argH m c) (argW m c) (rowOf t.val r) (colOf t.val (lt_points t) ⟨s.val * 128 + e.val, by omega⟩)) :
    normAt x ((iblk m c 2 t : FVec Ideal S1x128 .f32) (ix2 (0 : Fin 1) d)) d * factor = refAt m c t r l := by
  rw [blk2, refAt, result_q _ _ _ _ _ _ ⟨t.val / 8 * 4 + s.val, by omega⟩ d (show t.val / 8 * 512 + l.val = (t.val / 8 * 4 + s.val) * 128 + d.val by omega)]
  refine congrArg (fun y => normAt y _ d * factor) (funext fun e => (hx e).trans (congrArg (projAt _ _ _) (Fin.ext ?_)))
  show t.val / 8 * 512 + (s.val * 128 + e.val) = (t.val / 8 * 4 + s.val) * 128 + e.val
  omega

/-- A key tile's entry is the reference's. -/
theorem tile_k (t : Fin cfg0.N) (h1 : ¬ t.val < 64) (h3 : ¬ 128 ≤ t.val) (x : Fin 128 → EReal) (s : Fin 4) (r : Fin 1024) (d : Fin 128) (l : Fin 512) (hl : l.val = s.val * 128 + d.val)
    (hx : ∀ e : Fin 128, x e = projAt (argH m c) (argW m c) (rowOf t.val r) (colOf t.val (lt_points t) ⟨s.val * 128 + e.val, by omega⟩)) :
    normAt x ((iblk m c 3 t : FVec Ideal S1x128 .f32) (ix2 (0 : Fin 1) d)) d = refAt m c t r l := by
  rw [blk3, refAt, result_k _ _ _ _ _ _ ⟨(t.val / 8 - 8) * 4 + s.val, by omega⟩ d (show t.val / 8 * 512 + l.val = 4096 + (((t.val / 8 - 8) * 4 + s.val) * 128 + d.val) by omega)]
  refine congrArg (fun y => normAt y _ d) (funext fun e => (hx e).trans (congrArg (projAt _ _ _) (Fin.ext ?_)))
  show t.val / 8 * 512 + (s.val * 128 + e.val) = 4096 + (((t.val / 8 - 8) * 4 + s.val) * 128 + e.val)
  omega

/-- A plain column's entry is the reference's. -/
theorem tile_rest (t : Fin cfg0.N) (h3 : 128 ≤ t.val) (r : Fin 1024) (l : Fin 512) :
    projAt (argH m c) (argW m c) (rowOf t.val r) (colOf t.val (lt_points t) l) = refAt m c t r l :=
  (result_rest (argH m c) (argW m c) (argQ m c) (argK m c) (rowOf t.val r) (⟨t.val / 8 * 512 + l.val, by have := lt_points t; omega⟩ : Fin 16384) (by simp only; omega)).symm

/-- A query block, where the weights are cast. -/
theorem out_A (t : Fin cfg0.N) (h : t.val % 8 = 0) (h1 : t.val < 64) (y0 : Fin 1024) (y1 : Fin 512) : (outsAt0 m c t.val t.isLt).1 (ix2 y0 y1) = refAt m c t y0 y1 := by
  have ht := lt_points t
  rw [outsAt0_A m c t h h1 (by omega) (by omega)]
  frame_out
  canon_tiles x hx
  case piece0 =>
    idx_vars x
    obtain rfl : y0 = x0 := Fin.ext hx0
    refine (pay4_at _ _ _ y0 x1).trans ?_
    exact tile_q m c t h1 _ 3 y0 x1 y1 hx1 fun e => dot_eq m c t _ (cast_at m c t) y0 _
  case piece1 =>
    idx_vars x
    obtain rfl : y0 = x0 := Fin.ext hx0
    refine (pay3_at _ _ y0 x1).trans ?_
    exact tile_q m c t h1 _ 2 y0 x1 y1 hx1 fun e => (pay2_at _ _ y0 _).trans (dot_eq m c t _ (cast_at m c t) y0 _)
  case piece2 =>
    idx_vars x
    obtain rfl : y0 = x0 := Fin.ext hx0
    refine (pay9_at _ _ y0 x1).trans ?_
    exact tile_q m c t h1 _ 1 y0 x1 y1 hx1 fun e => (pay2_at _ _ y0 _).trans (dot_eq m c t _ (cast_at m c t) y0 _)
  case piece3 =>
    idx_vars x
    obtain rfl : y0 = x0 := Fin.ext hx0
    refine (pay8_at _ _ y0 x1).trans ?_
    exact tile_q m c t h1 _ 0 y0 x1 y1 (hx1.trans (Nat.zero_add _).symm) fun e => (pay2_at _ _ y0 _).trans (dot_eq m c t _ (cast_at m c t) y0 _)

/-- A query block, where the weights are carried. -/
theorem out_B (t : Fin cfg0.N) (h : ¬ t.val % 8 = 0) (h1 : t.val < 64) (y0 : Fin 1024) (y1 : Fin 512) : (outsAt0 m c t.val t.isLt).1 (ix2 y0 y1) = refAt m c t y0 y1 := by
  have ht := lt_points t
  rw [outsAt0_B m c t h h1 (by omega) (by omega)]
  frame_out
  canon_tiles x hx
  case piece0 =>
    idx_vars x
    obtain rfl : y0 = x0 := Fin.ext hx0
    refine (pay4_at _ _ _ y0 x1).trans ?_
    exact tile_q m c t h1 _ 3 y0 x1 y1 hx1 fun e => dot_eq m c t _ (fun k l => (congrFun (read0 _ _) _).trans (kept m c t h _ k l)) y0 _
  case piece1 =>
    idx_vars x
    obtain rfl : y0 = x0 := Fin.ext hx0
    refine (pay3_at _ _ y0 x1).trans ?_
    exact tile_q m c t h1 _ 2 y0 x1 y1 hx1 fun e => (pay2_at _ _ y0 _).trans (dot_eq m c t _ (fun k l => (congrFun (read0 _ _) _).trans (kept m c t h _ k l)) y0 _)
  case piece2 =>
    idx_vars x
    obtain rfl : y0 = x0 := Fin.ext hx0
    refine (pay9_at _ _ y0 x1).trans ?_
    exact tile_q m c t h1 _ 1 y0 x1 y1 hx1 fun e => (pay2_at _ _ y0 _).trans (dot_eq m c t _ (fun k l => (congrFun (read0 _ _) _).trans (kept m c t h _ k l)) y0 _)
  case piece3 =>
    idx_vars x
    obtain rfl : y0 = x0 := Fin.ext hx0
    refine (pay8_at _ _ y0 x1).trans ?_
    exact tile_q m c t h1 _ 0 y0 x1 y1 (hx1.trans (Nat.zero_add _).symm) fun e => (pay2_at _ _ y0 _).trans (dot_eq m c t _ (fun k l => (congrFun (read0 _ _) _).trans (kept m c t h _ k l)) y0 _)

/-- A key block, where the weights are cast. -/
theorem out_C (t : Fin cfg0.N) (h : t.val % 8 = 0) (h1 : ¬ t.val < 64) (h3 : ¬ 128 ≤ t.val) (y0 : Fin 1024) (y1 : Fin 512) : (outsAt0 m c t.val t.isLt).1 (ix2 y0 y1) = refAt m c t y0 y1 := by
  have ht := lt_points t
  rw [outsAt0_C m c t h h1 (by omega) h3]
  frame_out
  canon_tiles x hx
  case piece0 =>
    idx_vars x
    obtain rfl : y0 = x0 := Fin.ext hx0
    refine (pay6_at _ _ _ y0 x1).trans ?_
    exact tile_k m c t h1 h3 _ 3 y0 x1 y1 hx1 fun e => dot_eq m c t _ (cast_at m c t) y0 _
  case piece1 =>
    idx_vars x
    obtain rfl : y0 = x0 := Fin.ext hx0
    refine (pay5_at _ _ y0 x1).trans ?_
    exact tile_k m c t h1 h3 _ 2 y0 x1 y1 hx1 fun e => (pay2_at _ _ y0 _).trans (dot_eq m c t _ (cast_at m c t) y0 _)
  case piece2 =>
    idx_vars x
    obtain rfl : y0 = x0 := Fin.ext hx0
    refine (pay13_at _ _ y0 x1).trans ?_
    exact tile_k m c t h1 h3 _ 1 y0 x1 y1 hx1 fun e => (pay2_at _ _ y0 _).trans (dot_eq m c t _ (cast_at m c t) y0 _)
  case piece3 =>
    idx_vars x
    obtain rfl : y0 = x0 := Fin.ext hx0
    refine (pay12_at _ _ y0 x1).trans ?_
    exact tile_k m c t h1 h3 _ 0 y0 x1 y1 (hx1.trans (Nat.zero_add _).symm) fun e => (pay2_at _ _ y0 _).trans (dot_eq m c t _ (cast_at m c t) y0 _)

/-- A key block, where the weights are carried. -/
theorem out_D (t : Fin cfg0.N) (h : ¬ t.val % 8 = 0) (h1 : ¬ t.val < 64) (h3 : ¬ 128 ≤ t.val) (y0 : Fin 1024) (y1 : Fin 512) : (outsAt0 m c t.val t.isLt).1 (ix2 y0 y1) = refAt m c t y0 y1 := by
  have ht := lt_points t
  rw [outsAt0_D m c t h h1 (by omega) h3]
  frame_out
  canon_tiles x hx
  case piece0 =>
    idx_vars x
    obtain rfl : y0 = x0 := Fin.ext hx0
    refine (pay6_at _ _ _ y0 x1).trans ?_
    exact tile_k m c t h1 h3 _ 3 y0 x1 y1 hx1 fun e => dot_eq m c t _ (fun k l => (congrFun (read0 _ _) _).trans (kept m c t h _ k l)) y0 _
  case piece1 =>
    idx_vars x
    obtain rfl : y0 = x0 := Fin.ext hx0
    refine (pay5_at _ _ y0 x1).trans ?_
    exact tile_k m c t h1 h3 _ 2 y0 x1 y1 hx1 fun e => (pay2_at _ _ y0 _).trans (dot_eq m c t _ (fun k l => (congrFun (read0 _ _) _).trans (kept m c t h _ k l)) y0 _)
  case piece2 =>
    idx_vars x
    obtain rfl : y0 = x0 := Fin.ext hx0
    refine (pay13_at _ _ y0 x1).trans ?_
    exact tile_k m c t h1 h3 _ 1 y0 x1 y1 hx1 fun e => (pay2_at _ _ y0 _).trans (dot_eq m c t _ (fun k l => (congrFun (read0 _ _) _).trans (kept m c t h _ k l)) y0 _)
  case piece3 =>
    idx_vars x
    obtain rfl : y0 = x0 := Fin.ext hx0
    refine (pay12_at _ _ y0 x1).trans ?_
    exact tile_k m c t h1 h3 _ 0 y0 x1 y1 (hx1.trans (Nat.zero_add _).symm) fun e => (pay2_at _ _ y0 _).trans (dot_eq m c t _ (fun k l => (congrFun (read0 _ _) _).trans (kept m c t h _ k l)) y0 _)

/-- A plain block, where the weights are cast. -/
theorem out_E (t : Fin cfg0.N) (h : t.val % 8 = 0) (h3 : 128 ≤ t.val) (y0 : Fin 1024) (y1 : Fin 512) : (outsAt0 m c t.val t.isLt).1 (ix2 y0 y1) = refAt m c t y0 y1 := by
  have ht := lt_points t
  rw [outsAt0_E m c t h (by omega) (by omega) h3]
  frame_out
  refine (pay7_at _ _ y0 y1).trans ((dot_eq m c t _ (cast_at m c t) y0 y1).trans ?_)
  exact tile_rest m c t h3 y0 y1

/-- A plain block, where the weights are carried. -/
theorem out_F (t : Fin cfg0.N) (h : ¬ t.val % 8 = 0) (h3 : 128 ≤ t.val) (y0 : Fin 1024) (y1 : Fin 512) : (outsAt0 m c t.val t.isLt).1 (ix2 y0 y1) = refAt m c t y0 y1 := by
  have ht := lt_points t
  rw [outsAt0_F m c t h (by omega) (by omega) h3]
  frame_out
  refine (pay7_at _ _ y0 y1).trans ((dot_eq m c t _ (fun k l => (congrFun (read0 _ _) _).trans (kept m c t h _ k l)) y0 y1).trans ?_)
  exact tile_rest m c t h3 y0 y1

/-- The kernel's result array is the reference's. -/
theorem final : (dats m 0 c).arrAt 4 (cfgs 0).N = result (argH m c) (argW m c) (argQ m c) (argK m c) := by
  refine (dats m 0 c).arrAt_eq_of_covers 4 _ (by decide +kernel) fun t _ y => ?_
  blk_simp
  rw [after0_4]
  have ht := lt_points t
  idx_vars y
  refine Eq.trans (b := refAt m c t y0 y1) ?_ (by unfold refAt; blk_ext [idx t])
  by_cases h : t.val % 8 = 0
  · by_cases h1 : t.val < 64
    · exact out_A m c t h h1 y0 y1
    · by_cases h3 : 128 ≤ t.val
      · exact out_E m c t h h3 y0 y1
      · exact out_C m c t h h1 h3 y0 y1
  · by_cases h1 : t.val < 64
    · exact out_B m c t h h1 y0 y1
    · by_cases h3 : 128 ≤ t.val
      · exact out_F m c t h h3 y0 y1
      · exact out_D m c t h h1 h3 y0 y1

end Cert.Proof.InprojIdeal

end
-- ==== Proof.Claims.Inproj.lean ====
/-
  The attention input projection's claims: the frames of the kernel and of the reference, and the equality of their results.
-/
module

public import proofs.«01_k».proof.Proof.Gen.Inproj.Frame
public import proofs.«01_k».proof.Proof.InprojIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem inproj_frame : Cert.quiescent_Inproj (hInproj := Cert.Inproj.Gen.facts) :=
  fun m ρ _ => Cert.Inproj.Gen.frame m ρ

/-- The idealized kernel's frame. -/
theorem inprojIdeal_frame : Cert.quiescent_InprojIdeal (hInprojIdeal := Cert.InprojIdeal.Gen.facts) :=
  fun m ρ _ => Cert.InprojIdeal.Gen.frame m ρ

/-- The idealized reference's frame. -/
theorem inprojRef_frame : Cert.quiescent_InprojRefIdeal (hInprojRefIdeal := Cert.InprojRefIdeal.Gen.facts) := fun m g _ =>
  θ_run_and (by run_from Cert.InprojRefIdeal.Value.run m g)
    ((θ_run _ _ _).mono (fun r _ => Idealize.ShloMosaic.sem_eq_zero_of_no_sems (by decide) r.2) (Cert.InprojRefIdeal.Value.run m g))

/-- The kernel's result is the reference's. -/
theorem inproj_algebraic : Cert.algebraic_InprojIdeal_InprojRefIdeal (hInprojIdeal := Cert.InprojIdeal.Gen.facts) (hInprojRefIdeal := Cert.InprojRefIdeal.Gen.facts) := by
  pair_intro
  · run_from Cert.InprojIdeal.Value.run_blocks m g
  · run_from Cert.InprojRefIdeal.Value.run m' g'
    rw [Cert.Proof.InprojIdeal.res_eq, (hagree c).1, (hagree c).2.1, (hagree c).2.2.1, (hagree c).2.2.2]
    exact (Cert.Proof.InprojIdeal.final m c).symm

end Cert.Proof.Claims

end
-- ==== Proof.MmIdeal.Value.lean ====
/-
  The projection's result array over the extended reals is the plain reference's.
-/
module

public import proofs.«01_k».proof.Proof.Gen.MmIdeal.Value
public import proofs.«01_k».proof.Proof.Gen.MmRefIdeal.Run
public import Idealize.ShloMosaic.Lib.Pipeline.ValueKit

@[expose] public section

set_option maxRecDepth 16384

noncomputable section

namespace Cert.Proof.MmIdeal

open Cert.MmIdeal Cert.MmIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val % 8, 0] ∧ win0_1.index t = ![0, 0, t.val / 8]
    ∧ win0_2.index t = ![t.val % 8, t.val / 8] ∧ t.val < 256 :=
  (by decide +kernel : ∀ t : Fin grid0.N, _)

variable (m : (ℓ : Loc nD τ sig) → Buf (Elt Ideal) ℓ) (c : Dev nD)

/-- The activations, as the run finds them. -/
abbrev argH : FVec Ideal S8192x4096 .bf16 := m ((c : Thread nD τ).loc main_arg0)
/-- The weights, as the run finds them. -/
abbrev argW : FVec Ideal S1x4096x16448 .f32 := m ((c : Thread nD τ).loc main_arg1)

/-- The reference's result: the first columns of the product of the activations by the weights. -/
def ref (H : FVec Ideal S8192x4096 .bf16) (W : FVec Ideal S1x4096x16448 .f32) : FVec Ideal Cert.MmRefIdeal.S8192x16384 .bf16 :=
  truncf .bf16 (extractStridedSlice Cert.MmRefIdeal.S8192x16384 ![0, 0]
    (Host.dotGeneral Cert.MmRefIdeal.dot_S8192x4096_S4096x16448_S8192x16448_1_0_0_1_n_n none (extf .f32 H Cert.MmRefIdeal.Gen.bitsLt_bf16_f32)
      (shapeCast Cert.MmRefIdeal.S4096x16448 W Cert.MmRefIdeal.Gen.shapeCasts_S1x4096x16448_S4096x16448)) Cert.MmRefIdeal.Gen.slices_S8192x16448_S8192x16384_0_0) Cert.MmRefIdeal.Gen.bitsLt_bf16_f32

theorem ref_at (H : FVec Ideal S8192x4096 .bf16) (W : FVec Ideal S1x4096x16448 .f32) (r : Fin 8192) (j : Fin 16384) :
    ref H W (ix2 r j) = ∑ k : Fin 4096, H (ix2 r k) * W (ix3 (0 : Fin 1) k (⟨j.val, by omega⟩ : Fin 16448)) := by
  pointwise [ref]
  blk_ext

/-- The activations' block at a grid point. -/
theorem blk0 (t : Fin cfg0.N) (r : Fin 1024) (k : Fin 4096) :
    (iblk m c 0 t : FVec Ideal S1024x4096 .bf16) (ix2 r k)
      = argH m c (ix2 (⟨t.val % 8 * 1024 + r.val, by omega⟩ : Fin 8192) k) := by
  blk_point [iblk, V, idx t]

/-- The weights' block at a grid point. -/
theorem blk1 (t : Fin cfg0.N) (k : Fin 4096) (j : Fin 512) :
    (X0_1 m c t : FVec Ideal S1x4096x512 .f32) (ix3 (0 : Fin 1) k j)
      = argW m c (ix3 (0 : Fin 1) k (⟨t.val / 8 * 512 + j.val, by have := (idx t).2.2.2; omega⟩ : Fin 16448)) := by
  unfold X0_1 Pipeline.Window.fill
  rw [dif_pos (moved0_1 t _)]
  blk_point [iblk, V, idx t]

/-- After every point the carried scratch holds the point's column tile of the weights. -/
theorem scratch (n : ℕ) : ∀ (hn : n < cfg0.N) (k : Fin 4096) (j : Fin 512),
    (outsAt0 m c n hn).2 (ix2 k j) = argW m c (ix3 (0 : Fin 1) k (⟨n / 8 * 512 + j.val, by have := (idx ⟨n, hn⟩).2.2.2; simp only at this; omega⟩ : Fin 16448)) := by
  induction n with
  | zero =>
    intro hn k j
    rw [outsAt0_A m c ⟨0, hn⟩ rfl]
    frame_out
    pointwise [k0_pay1]
    refine (blk1 m c ⟨0, hn⟩ k j).trans ?_
    blk_ext
  | succ n ih =>
    intro hn k j
    by_cases h : (n + 1) % 8 = 0
    · rw [outsAt0_A m c ⟨n + 1, hn⟩ h]
      frame_out
      pointwise [k0_pay1]
      exact blk1 m c ⟨n + 1, hn⟩ k j
    · rw [outsAt0_B m c ⟨n + 1, hn⟩ h]
      refine (ih (by omega) k j).trans ?_
      have : n / 8 = (n + 1) / 8 := by omega
      simp only [this]

/-- The kernel's result array is the reference's. -/
theorem final : (dats m 0 c).arrAt 2 (cfgs 0).N = ref (argH m c) (argW m c) := by
  refine (dats m 0 c).arrAt_eq_of_covers 2 _ (by decide +kernel) fun t _ y => ?_
  blk_simp
  rw [after0_2]
  have ht := (idx t).2.2.2
  idx_vars y
  refine Eq.trans (b := ref (argH m c) (argW m c) (ix2 (⟨t.val % 8 * 1024 + y0.val, by omega⟩ : Fin 8192) (⟨t.val / 8 * 512 + y1.val, by omega⟩ : Fin 16384))) ?_ (by blk_ext [idx t])
  rw [ref_at]
  by_cases h : t.val % 8 = 0
  · rw [outsAt0_A m c t h]
    frame_out
    pointwise [k0_pay2, k0_pay1]
    refine Finset.sum_congr rfl fun k _ => ?_
    rw [blk0, blk1]
  · rw [outsAt0_B m c t h]
    frame_out
    pointwise [k0_pay2]
    refine Finset.sum_congr rfl fun k _ => ?_
    rw [blk0]
    refine congrArg _ ((congrFun (Memref.IsWhole.read_unread (m := Memref.whole cc0_scratch0) _ _) _).trans ?_)
    refine (scratch m c (t.val - 1) _ k y1).trans ?_
    have : (t.val - 1) / 8 = t.val / 8 := by omega
    simp only [this]

end Cert.Proof.MmIdeal

end
-- ==== Proof.Claims.Mm.lean ====
/-
  The first projection's claims: the frames of the kernel and of the reference, and the equality of their results.
-/
module

public import proofs.«01_k».proof.Proof.Gen.Mm.Frame
public import proofs.«01_k».proof.Proof.MmIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem mm_frame : Cert.quiescent_Mm (hMm := Cert.Mm.Gen.facts) :=
  fun m ρ _ => Cert.Mm.Gen.frame m ρ

/-- The idealized kernel's frame. -/
theorem mmIdeal_frame : Cert.quiescent_MmIdeal (hMmIdeal := Cert.MmIdeal.Gen.facts) :=
  fun m ρ _ => Cert.MmIdeal.Gen.frame m ρ

/-- The idealized reference's frame. -/
theorem mmRef_frame : Cert.quiescent_MmRefIdeal (hMmRefIdeal := Cert.MmRefIdeal.Gen.facts) := fun m g _ =>
  θ_run_and (by run_from Cert.MmRefIdeal.Value.run m g)
    ((θ_run _ _ _).mono (fun r _ => Idealize.ShloMosaic.sem_eq_zero_of_no_sems (by decide) r.2) (Cert.MmRefIdeal.Value.run m g))

/-- The kernel's result is the reference's. -/
theorem mm_algebraic : Cert.algebraic_MmIdeal_MmRefIdeal (hMmIdeal := Cert.MmIdeal.Gen.facts) (hMmRefIdeal := Cert.MmRefIdeal.Gen.facts) := by
  pair_intro
  · run_from Cert.MmIdeal.Value.run_blocks m g
  · run_from Cert.MmRefIdeal.Value.run m' g'
    exact (Cert.Proof.MmIdeal.final m c).symm

end Cert.Proof.Claims

end
-- ==== Proof.FinalIdeal.Value.lean ====
/-
  The final norm's result array over the extended reals is the plain reference's.
-/
module

public import proofs.«01_k».proof.Proof.Gen.FinalIdeal.Value
public import proofs.«01_k».proof.Proof.Gen.FinalRefIdeal.Run
public import Idealize.ShloMosaic.Lib.Pipeline.ValueKit

@[expose] public section

set_option maxRecDepth 16384

noncomputable section

namespace Cert.Proof.FinalIdeal

open Cert.FinalIdeal Cert.FinalIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- The root mean square normalisation of a row, at entry `d`, with gain `g`. -/
def normAt (x : Fin 4096 → EReal) (g : EReal) (d : Fin 4096) : EReal :=
  x d * Ideal.rsqrt (Ideal.div (∑ e : Fin 4096, x e * x e) (Ideal.ofBits .f32 0x45800000#32) + Ideal.ofBits .f32 0x358637BD#32) * g

/-- The inverse root mean square of every row. -/
def inv (x : FVec Ideal Cert.FinalRefIdeal.S2x4096x4096 .f32) : FVec Ideal Cert.FinalRefIdeal.S2x4096x1 .f32 :=
  Host.rsqrt (addf (Host.divf (broadcastInDim Cert.FinalRefIdeal.S2x4096x1 ![0, 1] Cert.FinalRefIdeal.Gen.bcast_S2x4096_S2x4096x1_0_1
    (Host.reduceAdd (mulf x x) (constant Cert.FinalRefIdeal.S_ .f32 0x00000000#32) Cert.FinalRefIdeal.Gen.reducesTo_S2x4096x4096_S2x4096_d2 Cert.FinalRefIdeal.Gen.h_S_))
    (broadcastInDim Cert.FinalRefIdeal.S2x4096x1 ![] Cert.FinalRefIdeal.Gen.bcast_S_S2x4096x1 (constant Cert.FinalRefIdeal.S_ .f32 0x45800000#32))) (broadcastInDim Cert.FinalRefIdeal.S2x4096x1 ![] Cert.FinalRefIdeal.Gen.bcast_S_S2x4096x1 (constant Cert.FinalRefIdeal.S_ .f32 0x358637BD#32)))

theorem inv_at (x : FVec Ideal Cert.FinalRefIdeal.S2x4096x4096 .f32) (b : Fin 2) (s : Fin 4096) : inv x (ix3 b s (0 : Fin 1))
    = Ideal.rsqrt (Ideal.div (∑ e : Fin 4096, x (ix3 b s e) * x (ix3 b s e)) (Ideal.ofBits .f32 0x45800000#32) + Ideal.ofBits .f32 0x358637BD#32) := by
  pointwise [inv]

theorem split_at (x : FVec Ideal Cert.FinalRefIdeal.S8192x4096 .f32) (b : Fin 2) (s : Fin 4096) (e : Fin 4096) :
    shapeCast Cert.FinalRefIdeal.S2x4096x4096 x Cert.FinalRefIdeal.Gen.shapeCasts_S8192x4096_S2x4096x4096 (ix3 b s e) = x (ix2 ⟨b.val * 4096 + s.val, by omega⟩ e) := by
  pointwise
  blk_ext

/-- The reference's result. -/
def ref (X : FVec Ideal S8192x4096 .f32) (g : FVec Ideal S4096 .f32) : FVec Ideal S8192x4096 .f32 :=
  shapeCast _ (mulf (mulf (shapeCast Cert.FinalRefIdeal.S2x4096x4096 X Cert.FinalRefIdeal.Gen.shapeCasts_S8192x4096_S2x4096x4096)
    (broadcastInDim Cert.FinalRefIdeal.S2x4096x4096 ![0, 1, 2] Cert.FinalRefIdeal.Gen.bcast_S2x4096x1_S2x4096x4096_0_1_2 (inv (shapeCast Cert.FinalRefIdeal.S2x4096x4096 X Cert.FinalRefIdeal.Gen.shapeCasts_S8192x4096_S2x4096x4096))))
    (broadcastInDim Cert.FinalRefIdeal.S2x4096x4096 ![0, 1, 2] Cert.FinalRefIdeal.Gen.bcast_S1x1x4096_S2x4096x4096_0_1_2 (broadcastInDim Cert.FinalRefIdeal.S1x1x4096 ![2] Cert.FinalRefIdeal.Gen.bcast_S4096_S1x1x4096_2 g)))
    Cert.FinalRefIdeal.Gen.shapeCasts_S2x4096x4096_S8192x4096

theorem ref_at (X : FVec Ideal S8192x4096 .f32) (g : FVec Ideal S4096 .f32) (r : Fin 8192) (d : Fin 4096) :
    ref X g (ix2 r d) = normAt (fun e => X (ix2 r e)) (g (ix1 d)) d := by
  pointwise [ref]
  rw [inv_at]
  simp only [split_at]
  have hr : (⟨r.val / 4096 * 4096 + r.val % 4096, by omega⟩ : Fin 8192) = r := Fin.ext (show r.val / 4096 * 4096 + r.val % 4096 = r.val by omega)
  simp only [hr]
  rfl

variable (m : (ℓ : Loc nD τ sig) → Buf (Elt Ideal) ℓ) (c : Dev nD)

/-- The residual stream, as the run finds it. -/
abbrev argX : FVec Ideal S8192x4096 .f32 := m ((c : Thread nD τ).loc main_arg0)
/-- The gains, as the run finds them. -/
abbrev argG : FVec Ideal S4096 .f32 := m ((c : Thread nD τ).loc main_arg1)

theorem blk0 (t : Fin cfg0.N) (r : Fin 256) (k : Fin 4096) :
    (iblk m c 0 t : FVec Ideal S256x4096 .f32) (ix2 r k) = argX m c (ix2 (⟨t.val * 256 + r.val, by have := (idx t).2.2.2; omega⟩ : Fin 8192) k) := by
  blk_point [iblk, V, idx t]
theorem blk1 (t : Fin cfg0.N) (k : Fin 4096) : (iblk m c 1 t : FVec Ideal S1x4096 .f32) (ix2 (0 : Fin 1) k) = argG m c (ix1 k) := by
  blk_point [iblk, V, idx t]

/-- The kernel's result array is the reference's. -/
theorem final : (dats m 0 c).arrAt 2 (cfgs 0).N = ref (argX m c) (argG m c) := by
  refine (dats m 0 c).arrAt_eq_of_covers 2 _ (by decide +kernel) fun t _ y => ?_
  blk_simp
  rw [after0_2]
  have ht := (idx t).2.2.2
  idx_vars y
  refine Eq.trans (b := ref (argX m c) (argG m c) (ix2 (⟨t.val * 256 + y0.val, by omega⟩ : Fin 8192) y1)) ?_ (by blk_ext [idx t])
  rw [ref_at]
  frame_out
  pointwise [k0_pay1]
  simp only [blk0, blk1]
  rfl

end Cert.Proof.FinalIdeal

end
-- ==== Proof.Claims.Final.lean ====
/-
  The final norm's claims: the frames of the kernel and of the reference, and the equality of their results.
-/
module

public import proofs.«01_k».proof.Proof.Gen.Final.Frame
public import proofs.«01_k».proof.Proof.FinalIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem final_frame : Cert.quiescent_Final (hFinal := Cert.Final.Gen.facts) :=
  fun m ρ _ => Cert.Final.Gen.frame m ρ

/-- The idealized kernel's frame. -/
theorem finalIdeal_frame : Cert.quiescent_FinalIdeal (hFinalIdeal := Cert.FinalIdeal.Gen.facts) :=
  fun m ρ _ => Cert.FinalIdeal.Gen.frame m ρ

/-- The idealized reference's frame. -/
theorem finalRef_frame : Cert.quiescent_FinalRefIdeal (hFinalRefIdeal := Cert.FinalRefIdeal.Gen.facts) := fun m g _ =>
  θ_run_and (by run_from Cert.FinalRefIdeal.Value.run m g)
    ((θ_run _ _ _).mono (fun r _ => Idealize.ShloMosaic.sem_eq_zero_of_no_sems (by decide) r.2) (Cert.FinalRefIdeal.Value.run m g))

/-- The kernel's result is the reference's. -/
theorem final_algebraic : Cert.algebraic_FinalIdeal_FinalRefIdeal (hFinalIdeal := Cert.FinalIdeal.Gen.facts) (hFinalRefIdeal := Cert.FinalRefIdeal.Gen.facts) := by
  pair_intro
  · run_from Cert.FinalIdeal.Value.run_blocks m g
  · run_from Cert.FinalRefIdeal.Value.run m' g'
    exact (Cert.Proof.FinalIdeal.final m c).symm

end Cert.Proof.Claims

end
-- ==== Proof.NormIdeal.Value.lean ====
/-
  The modulated norm's result array over the extended reals is the plain reference's.
-/
module

public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

namespace Cert.Proof.NormIdeal

open Cert.NormIdeal Cert.NormIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![t.val / 16, 0, 0] ∧ win0_3.index t = ![t.val, 0] ∧ t.val < 32 :=
  (by decide +kernel : ∀ t : Fin grid0.N, _)

/-- The root mean square normalisation of a row, at entry `d`, with gain `g`. -/
def normAt (x : Fin 4096 → EReal) (g : EReal) (d : Fin 4096) : EReal :=
  x d * Ideal.rsqrt (Ideal.div (∑ e : Fin 4096, x e * x e) (Ideal.ofBits .f32 0x45800000#32) + Ideal.ofBits .f32 0x358637BD#32) * g

/-- The inverse root mean square of every row. -/
def inv (x : FVec Ideal Cert.NormRefIdeal.S2x4096x4096 .f32) : FVec Ideal Cert.NormRefIdeal.S2x4096x1 .f32 :=
  Host.rsqrt (addf (Host.divf (broadcastInDim Cert.NormRefIdeal.S2x4096x1 ![0, 1] Cert.NormRefIdeal.Gen.bcast_S2x4096_S2x4096x1_0_1
    (Host.reduceAdd (mulf x x) (constant Cert.NormRefIdeal.S_ .f32 0x00000000#32) Cert.NormRefIdeal.Gen.reducesTo_S2x4096x4096_S2x4096_d2 Cert.NormRefIdeal.Gen.h_S_))
    (broadcastInDim Cert.NormRefIdeal.S2x4096x1 ![] Cert.NormRefIdeal.Gen.bcast_S_S2x4096x1 (constant Cert.NormRefIdeal.S_ .f32 0x45800000#32))) (broadcastInDim Cert.NormRefIdeal.S2x4096x1 ![] Cert.NormRefIdeal.Gen.bcast_S_S2x4096x1 (constant Cert.NormRefIdeal.S_ .f32 0x358637BD#32)))

theorem inv_at (x : FVec Ideal Cert.NormRefIdeal.S2x4096x4096 .f32) (b : Fin 2) (s : Fin 4096) : inv x (ix3 b s (0 : Fin 1))
    = Ideal.rsqrt (Ideal.div (∑ e : Fin 4096, x (ix3 b s e) * x (ix3 b s e)) (Ideal.ofBits .f32 0x45800000#32) + Ideal.ofBits .f32 0x358637BD#32) := by
  pointwise [inv]

theorem split_at (x : FVec Ideal Cert.NormRefIdeal.S8192x4096 .f32) (b : Fin 2) (s : Fin 4096) (e : Fin 4096) :
    shapeCast Cert.NormRefIdeal.S2x4096x4096 x Cert.NormRefIdeal.Gen.shapeCasts_S8192x4096_S2x4096x4096 (ix3 b s e) = x (ix2 ⟨b.val * 4096 + s.val, by omega⟩ e) := by
  pointwise
  blk_ext

/-- The normalised rows. -/
def normed (X : FVec Ideal S8192x4096 .f32) (g : FVec Ideal S2x4096 .f32) : FVec Ideal Cert.NormRefIdeal.S2x4096x4096 .f32 :=
  mulf (mulf (shapeCast Cert.NormRefIdeal.S2x4096x4096 X Cert.NormRefIdeal.Gen.shapeCasts_S8192x4096_S2x4096x4096)
    (broadcastInDim Cert.NormRefIdeal.S2x4096x4096 ![0, 1, 2] Cert.NormRefIdeal.Gen.bcast_S2x4096x1_S2x4096x4096_0_1_2 (inv (shapeCast Cert.NormRefIdeal.S2x4096x4096 X Cert.NormRefIdeal.Gen.shapeCasts_S8192x4096_S2x4096x4096))))
    (broadcastInDim Cert.NormRefIdeal.S2x4096x4096 ![0, 1, 2] Cert.NormRefIdeal.Gen.bcast_S1x1x4096_S2x4096x4096_0_1_2 (broadcastInDim Cert.NormRefIdeal.S1x1x4096 ![2] Cert.NormRefIdeal.Gen.bcast_S4096_S1x1x4096_2
      (shapeCast Cert.NormRefIdeal.S4096 (extractStridedSlice Cert.NormRefIdeal.S1x4096 ![0, 0] g Cert.NormRefIdeal.Gen.slices_S2x4096_S1x4096_0_0) Cert.NormRefIdeal.Gen.shapeCasts_S1x4096_S4096)))

theorem normed_at (X : FVec Ideal S8192x4096 .f32) (g : FVec Ideal S2x4096 .f32) (b : Fin 2) (s : Fin 4096) (d : Fin 4096) :
    normed X g (ix3 b s d) = normAt (fun e => X (ix2 (⟨b.val * 4096 + s.val, by omega⟩ : Fin 8192) e)) (g (ix2 (0 : Fin 2) d)) d := by
  pointwise [normed]
  rw [inv_at]
  simp only [split_at]
  rfl

/-- One row of the modulation, the same for every position. -/
def row (M : FVec Ideal S2x6x4096 .f32) (e : ℕ) (he : Shape.Slices Cert.NormRefIdeal.S2x6x4096 ![0, e, 0] Cert.NormRefIdeal.S2x1x4096) : FVec Ideal Cert.NormRefIdeal.S2x1x4096 .f32 :=
  broadcastInDim Cert.NormRefIdeal.S2x1x4096 ![0, 2] Cert.NormRefIdeal.Gen.bcast_S2x4096_S2x1x4096_0_2
    (shapeCast Cert.NormRefIdeal.S2x4096 (extractStridedSlice Cert.NormRefIdeal.S2x1x4096 ![0, e, 0] M he) Cert.NormRefIdeal.Gen.shapeCasts_S2x1x4096_S2x4096)

/-- The reference's result. -/
def ref (X : FVec Ideal S8192x4096 .f32) (g : FVec Ideal S2x4096 .f32) (M : FVec Ideal S2x6x4096 .f32) : FVec Ideal S8192x4096 .bf16 :=
  shapeCast _ (truncf .bf16 (addf (mulf (normed X g) (broadcastInDim Cert.NormRefIdeal.S2x4096x4096 ![0, 1, 2] Cert.NormRefIdeal.Gen.bcast_S2x1x4096_S2x4096x4096_0_1_2
    (addf (broadcastInDim Cert.NormRefIdeal.S2x1x4096 ![] Cert.NormRefIdeal.Gen.bcast_S_S2x1x4096 (constant Cert.NormRefIdeal.S_ .f32 0x3F800000#32)) (row M 1 Cert.NormRefIdeal.Gen.slices_S2x6x4096_S2x1x4096_0_1_0))))
    (broadcastInDim Cert.NormRefIdeal.S2x4096x4096 ![0, 1, 2] Cert.NormRefIdeal.Gen.bcast_S2x1x4096_S2x4096x4096_0_1_2 (row M 0 Cert.NormRefIdeal.Gen.slices_S2x6x4096_S2x1x4096_0_0_0))) Cert.NormRefIdeal.Gen.bitsLt_bf16_f32)
    Cert.NormRefIdeal.Gen.shapeCasts_S2x4096x4096_S8192x4096

theorem ref_at (X : FVec Ideal S8192x4096 .f32) (g : FVec Ideal S2x4096 .f32) (M : FVec Ideal S2x6x4096 .f32) (r : Fin 8192) (d : Fin 4096) :
    ref X g M (ix2 r d) = normAt (fun e => X (ix2 r e)) (g (ix2 (0 : Fin 2) d)) d * (1 + M (ix3 (⟨r.val / 4096, by omega⟩ : Fin 2) (1 : Fin 6) d))
      + M (ix3 (⟨r.val / 4096, by omega⟩ : Fin 2) (0 : Fin 6) d) := by
  pointwise [ref, row]
  rw [normed_at]
  have hr : (⟨r.val / 4096 * 4096 + r.val % 4096, by omega⟩ : Fin 8192) = r := Fin.ext (show r.val / 4096 * 4096 + r.val % 4096 = r.val by omega)
  simp only [hr]
  try rfl

variable (m : (ℓ : Loc nD τ sig) → Buf (Elt Ideal) ℓ) (c : Dev nD)

/-- The residual stream, as the run finds it. -/
abbrev argX : FVec Ideal S8192x4096 .f32 := m ((c : Thread nD τ).loc main_arg0)
/-- The gains, as the run finds them. -/
abbrev argG : FVec Ideal S2x4096 .f32 := m ((c : Thread nD τ).loc main_arg1)
/-- The modulation, as the run finds it. -/
abbrev argM : FVec Ideal S2x6x4096 .f32 := m ((c : Thread nD τ).loc main_arg2)

theorem blk0 (t : Fin cfg0.N) (r : Fin 256) (k : Fin 4096) :
    (iblk m c 0 t : FVec Ideal S256x4096 .f32) (ix2 r k) = argX m c (ix2 (⟨t.val * 256 + r.val, by have := (idx t).2.2.2.2; omega⟩ : Fin 8192) k) := by
  blk_point [iblk, V, idx t]
theorem blk1 (t : Fin cfg0.N) (k : Fin 4096) : (iblk m c 1 t : FVec Ideal S1x4096 .f32) (ix2 (0 : Fin 1) k) = argG m c (ix2 (0 : Fin 2) k) := by
  blk_point [iblk, V, idx t]
theorem blk2 (t : Fin cfg0.N) (e : Fin 6) (k : Fin 4096) :
    (iblk m c 2 t : FVec Ideal S1x6x4096 .f32) (ix3 (0 : Fin 1) e k) = argM m c (ix3 (⟨t.val / 16, by have := (idx t).2.2.2.2; omega⟩ : Fin 2) e k) := by
  blk_point [iblk, V, idx t]

/-- The kernel's result array is the reference's. -/
theorem final : (dats m 0 c).arrAt 3 (cfgs 0).N = ref (argX m c) (argG m c) (argM m c) := by
  refine (dats m 0 c).arrAt_eq_of_covers 3 _ (by decide +kernel) fun t _ y => ?_
  blk_simp
  rw [after0_3]
  have ht := (idx t).2.2.2.2
  idx_vars y
  refine Eq.trans (b := ref (argX m c) (argG m c) (argM m c) (ix2 (⟨t.val * 256 + y0.val, by omega⟩ : Fin 8192) y1)) ?_ (by blk_ext [idx t])
  rw [ref_at]
  have hb : (⟨(t.val * 256 + y0.val) / 4096, by omega⟩ : Fin 2) = ⟨t.val / 16, by omega⟩ := Fin.ext (show (t.val * 256 + y0.val) / 4096 = t.val / 16 by omega)
  simp only [hb]
  frame_out
  pointwise [k0_pay1]
  simp only [blk0, blk1, blk2]
  rfl

end Cert.Proof.NormIdeal

end
-- ==== Proof.Claims.Norm.lean ====
/-
  The modulated norm's claims: the frames of the kernel and of the reference, and the equality of their results.
-/
module

public import proofs.«01_k».proof.Proof.Gen.Norm.Frame
public import proofs.«01_k».proof.Proof.NormIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem norm_frame : Cert.quiescent_Norm (hNorm := Cert.Norm.Gen.facts) :=
  fun m ρ _ => Cert.Norm.Gen.frame m ρ

/-- The idealized kernel's frame. -/
theorem normIdeal_frame : Cert.quiescent_NormIdeal (hNormIdeal := Cert.NormIdeal.Gen.facts) :=
  fun m ρ _ => Cert.NormIdeal.Gen.frame m ρ

/-- The idealized reference's frame. -/
theorem normRef_frame : Cert.quiescent_NormRefIdeal (hNormRefIdeal := Cert.NormRefIdeal.Gen.facts) := fun m g _ =>
  θ_run_and (by run_from Cert.NormRefIdeal.Value.run m g)
    ((θ_run _ _ _).mono (fun r _ => Idealize.ShloMosaic.sem_eq_zero_of_no_sems (by decide) r.2) (Cert.NormRefIdeal.Value.run m g))

/-- The kernel's result is the reference's. -/
theorem norm_algebraic : Cert.algebraic_NormIdeal_NormRefIdeal (hNormIdeal := Cert.NormIdeal.Gen.facts) (hNormRefIdeal := Cert.NormRefIdeal.Gen.facts) := by
  pair_intro
  · run_from Cert.NormIdeal.Value.run_blocks m g
  · run_from Cert.NormRefIdeal.Value.run m' g'
    exact (Cert.Proof.NormIdeal.final m c).symm

end Cert.Proof.Claims

end
-- ==== Proof.ModIdeal.Value.lean ====
/-
  The modulation's result array over the extended reals is the plain reference's.
-/
module

public import proofs.«01_k».proof.Proof.Gen.ModIdeal.Value
public import proofs.«01_k».proof.Proof.Gen.ModRefIdeal.Run
public import Idealize.ShloMosaic.Lib.Pipeline.ValueKit

@[expose] public section

set_option maxRecDepth 16384

noncomputable section

namespace Cert.Proof.ModIdeal

open Cert.ModIdeal Cert.ModIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![0, 0, 0] ∧ win0_1.index t = ![t.val / 48, 0, t.val % 48] ∧ win0_2.index t = ![t.val / 48, 0, t.val % 48]
    ∧ win0_3.index t = ![t.val / 48, 0, t.val % 48] ∧ t.val < 96 :=
  (by decide +kernel : ∀ t : Fin grid0.N, _)

variable (m : (ℓ : Loc nD τ sig) → Buf (Elt Ideal) ℓ) (c : Dev nD)

/-- The conditioning, as the run finds it. -/
abbrev argC : FVec Ideal S2x4096 .f32 := m ((c : Thread nD τ).loc main_arg0)
/-- The weights, as the run finds them. -/
abbrev argW : FVec Ideal S2x4096x24576 .f32 := m ((c : Thread nD τ).loc main_arg1)
/-- The offsets, as the run finds them. -/
abbrev argB : FVec Ideal S2x24576 .f32 := m ((c : Thread nD τ).loc main_arg2)

theorem blk0 (t : Fin cfg0.N) (b : Fin 2) (k : Fin 4096) (l : Fin 128) :
    (iblk m c 0 t : FVec Ideal S2x4096x128 .f32) (ix3 b k l) = argC m c (ix2 b k) := by
  blk_point [iblk, V, idx t]
theorem blk1 (t : Fin cfg0.N) (k : Fin 4096) (l : Fin 512) :
    (iblk m c 1 t : FVec Ideal S1x4096x512 .f32) (ix3 (0 : Fin 1) k l)
      = argW m c (ix3 (⟨t.val / 48, by have := (idx t).2.2.2.2; omega⟩ : Fin 2) k (⟨t.val % 48 * 512 + l.val, by omega⟩ : Fin 24576)) := by
  blk_point [iblk, V, idx t]
theorem blk2 (t : Fin cfg0.N) (l : Fin 512) :
    (iblk m c 2 t : FVec Ideal S1x1x512 .f32) (ix3 (0 : Fin 1) (0 : Fin 1) l)
      = argB m c (ix2 (⟨t.val / 48, by have := (idx t).2.2.2.2; omega⟩ : Fin 2) (⟨t.val % 48 * 512 + l.val, by omega⟩ : Fin 24576)) := by
  blk_point [iblk, V, idx t]

/-- `x` times its logistic. -/
def siluAt (x : EReal) : EReal := x * Ideal.div 1 (1 + Ideal.exp (0 - x))

variable (a : Vec Ideal S1x4096x128 .f32) (w0 w1 w2 w3 : Vec Ideal S1x4096x128 .f32) (o : Vec Ideal S1x1x512 .f32)

/-- One column of the product. -/
def colAt (w : Vec Ideal S1x4096x128 .f32) (l : Fin 128) : EReal := ∑ k : Fin 4096, w (ix3 (0 : Fin 1) k l) * siluAt (a (ix3 (0 : Fin 1) k l))

theorem pay5_at (k : Fin 4096) (d : Fin 128) : k0_pay5 (F := Ideal) a (ix2 k d) = siluAt (a (ix3 (0 : Fin 1) k d)) := by
  pointwise [k0_pay5]
  rfl

/-- The first sequence's row: the column's product and the offset. -/
theorem row0_at (l : Fin 512) (s : EReal) (h0 : ∀ d : Fin 128, d.val = l.val → colAt a w0 d = s) (h1 : ∀ d : Fin 128, 128 + d.val = l.val → colAt a w1 d = s)
    (h2 : ∀ d : Fin 128, 256 + d.val = l.val → colAt a w2 d = s) (h3 : ∀ d : Fin 128, 384 + d.val = l.val → colAt a w3 d = s) :
    k0_pay4 (F := Ideal) (k0_pay2 a w0 w1 w2 w3) (k0_pay3 o) (ix3 (0 : Fin 1) (0 : Fin 1) l) = s + o (ix3 (0 : Fin 1) (0 : Fin 1) l) := by
  pointwise [k0_pay4, k0_pay2, k0_pay3]
  refine congrArg (· + _) ?_
  by_cases c0 : l.val < 128
  · rw [dif_pos c0]
    exact h0 _ rfl
  rw [dif_neg c0]
  by_cases c1 : l.val - 128 < 128
  · rw [dif_pos c1]
    exact h1 ⟨l.val - 128, c1⟩ (by simp only; omega)
  rw [dif_neg c1]
  by_cases c2 : l.val - 128 - 128 < 128
  · rw [dif_pos c2]
    exact h2 ⟨l.val - 128 - 128, c2⟩ (by simp only; omega)
  rw [dif_neg c2]
  exact h3 ⟨l.val - 128 - 128 - 128, by omega⟩ (by simp only; omega)

/-- The second sequence's row: the column's product and the offset. -/
theorem row1_at (l : Fin 512) (s : EReal) (h0 : ∀ d : Fin 128, d.val = l.val → colAt a w0 d = s) (h1 : ∀ d : Fin 128, 128 + d.val = l.val → colAt a w1 d = s)
    (h2 : ∀ d : Fin 128, 256 + d.val = l.val → colAt a w2 d = s) (h3 : ∀ d : Fin 128, 384 + d.val = l.val → colAt a w3 d = s) :
    k0_pay1 (F := Ideal) (k0_pay6 a w0) (k0_pay7 a w1) (k0_pay8 a w2) (k0_pay9 a w3) o (ix3 (0 : Fin 1) (0 : Fin 1) l) = s + o (ix3 (0 : Fin 1) (0 : Fin 1) l) := by
  pointwise [k0_pay1, k0_pay6, k0_pay7, k0_pay8, k0_pay9]
  simp only [pay5_at]
  refine congrArg (· + _) ?_
  by_cases c0 : l.val < 128
  · rw [dif_pos c0]
    exact h0 _ rfl
  rw [dif_neg c0]
  by_cases c1 : l.val - 128 < 128
  · rw [dif_pos c1]
    exact h1 ⟨l.val - 128, c1⟩ (by simp only; omega)
  rw [dif_neg c1]
  by_cases c2 : l.val - 128 - 128 < 128
  · rw [dif_pos c2]
    exact h2 ⟨l.val - 128 - 128, c2⟩ (by simp only; omega)
  rw [dif_neg c2]
  exact h3 ⟨l.val - 128 - 128 - 128, by omega⟩ (by simp only; omega)

omit a w0 w1 w2 w3 o

/-- One entry of the modulation: the conditioning's SiLU times a column of the weights, and the offset. -/
def entry (C : FVec Ideal S2x4096 .f32) (W : FVec Ideal S2x4096x24576 .f32) (B : FVec Ideal S2x24576 .f32) (i b : Fin 2) (j : Fin 24576) : EReal :=
  (∑ k : Fin 4096, siluAt (C (ix2 b k)) * W (ix3 i k j)) + B (ix2 i j)

/-- One layer's modulation in the reference. -/
def layer (C : FVec Ideal S2x4096 .f32) (W : FVec Ideal S2x4096x24576 .f32) (B : FVec Ideal S2x24576 .f32) (i : ℕ)
    (hw : Shape.Slices Cert.ModRefIdeal.S2x4096x24576 ![i, 0, 0] Cert.ModRefIdeal.S1x4096x24576) (hb : Shape.Slices Cert.ModRefIdeal.S2x24576 ![i, 0] Cert.ModRefIdeal.S1x24576) :
    FVec Ideal Cert.ModRefIdeal.S1x2x24576 .f32 :=
  broadcastInDim Cert.ModRefIdeal.S1x2x24576 ![1, 2] Cert.ModRefIdeal.Gen.bcast_S2x24576_S1x2x24576_1_2 (addf (Host.dotGeneral Cert.ModRefIdeal.dot_S2x4096_S4096x24576_S2x24576_1_0_0_1_n_n none
    (mulf C (Host.divf (broadcastInDim Cert.ModRefIdeal.S2x4096 ![] Cert.ModRefIdeal.Gen.bcast_S_S2x4096 (constant Cert.ModRefIdeal.S_ .f32 0x3F800000#32))
      (addf (broadcastInDim Cert.ModRefIdeal.S2x4096 ![] Cert.ModRefIdeal.Gen.bcast_S_S2x4096 (constant Cert.ModRefIdeal.S_ .f32 0x3F800000#32)) (Host.exp (Host.negf C)))))
    (shapeCast Cert.ModRefIdeal.S4096x24576 (extractStridedSlice Cert.ModRefIdeal.S1x4096x24576 ![i, 0, 0] W hw) Cert.ModRefIdeal.Gen.shapeCasts_S1x4096x24576_S4096x24576))
    (broadcastInDim Cert.ModRefIdeal.S2x24576 ![0, 1] Cert.ModRefIdeal.Gen.bcast_S1x24576_S2x24576_0_1 (broadcastInDim Cert.ModRefIdeal.S1x24576 ![1] Cert.ModRefIdeal.Gen.bcast_S24576_S1x24576_1
      (shapeCast Cert.ModRefIdeal.S24576 (extractStridedSlice Cert.ModRefIdeal.S1x24576 ![i, 0] B hb) Cert.ModRefIdeal.Gen.shapeCasts_S1x24576_S24576))))

/-- The reference's result. -/
def ref (C : FVec Ideal S2x4096 .f32) (W : FVec Ideal S2x4096x24576 .f32) (B : FVec Ideal S2x24576 .f32) : FVec Ideal S2x2x24576 .f32 :=
  concatenate Cert.ModRefIdeal.S2x2x24576 0 [⟨Cert.ModRefIdeal.S1x2x24576, layer C W B 0 Cert.ModRefIdeal.Gen.slices_S2x4096x24576_S1x4096x24576_0_0_0 Cert.ModRefIdeal.Gen.slices_S2x24576_S1x24576_0_0⟩,
    ⟨Cert.ModRefIdeal.S1x2x24576, layer C W B 1 Cert.ModRefIdeal.Gen.slices_S2x4096x24576_S1x4096x24576_1_0_0 Cert.ModRefIdeal.Gen.slices_S2x24576_S1x24576_1_0⟩] Cert.ModRefIdeal.Gen.concatenates_S1x2x24576_S1x2x24576_S2x2x24576_d0

theorem layer0_at (C : FVec Ideal S2x4096 .f32) (W : FVec Ideal S2x4096x24576 .f32) (B : FVec Ideal S2x24576 .f32) (b : Fin 2) (j : Fin 24576) :
    layer C W B 0 Cert.ModRefIdeal.Gen.slices_S2x4096x24576_S1x4096x24576_0_0_0 Cert.ModRefIdeal.Gen.slices_S2x24576_S1x24576_0_0 (ix3 (0 : Fin 1) b j) = entry C W B 0 b j := by
  pointwise [layer]
  simp only [entry, siluAt, zero_sub]
theorem layer1_at (C : FVec Ideal S2x4096 .f32) (W : FVec Ideal S2x4096x24576 .f32) (B : FVec Ideal S2x24576 .f32) (b : Fin 2) (j : Fin 24576) :
    layer C W B 1 Cert.ModRefIdeal.Gen.slices_S2x4096x24576_S1x4096x24576_1_0_0 Cert.ModRefIdeal.Gen.slices_S2x24576_S1x24576_1_0 (ix3 (0 : Fin 1) b j) = entry C W B 1 b j := by
  pointwise [layer]
  simp only [entry, siluAt, zero_sub]

theorem ref_at (C : FVec Ideal S2x4096 .f32) (W : FVec Ideal S2x4096x24576 .f32) (B : FVec Ideal S2x24576 .f32) (i b : Fin 2) (j : Fin 24576) :
    ref C W B (ix3 i b j) = entry C W B i b j := by
  pointwise [ref]
  match i with
  | ⟨0, _⟩ => exact (dif_pos Nat.zero_lt_one).trans (layer0_at C W B b j)
  | ⟨1, _⟩ => exact (dif_neg (Nat.lt_irrefl 1)).trans (layer1_at C W B b j)

theorem col_eq (t : Fin cfg0.N) (b : Fin 2) (l : Fin 512) (a w : Vec Ideal S1x4096x128 .f32) (d : Fin 128)
    (ha : ∀ k : Fin 4096, a (ix3 (0 : Fin 1) k d) = (iblk m c 0 t : FVec Ideal S2x4096x128 .f32) (ix3 b k d))
    (hw : ∀ k : Fin 4096, w (ix3 (0 : Fin 1) k d) = (iblk m c 1 t : FVec Ideal S1x4096x512 .f32) (ix3 (0 : Fin 1) k l)) :
    colAt a w d = ∑ k : Fin 4096, siluAt (argC m c (ix2 b k)) * argW m c (ix3 (⟨t.val / 48, by have := (idx t).2.2.2.2; omega⟩ : Fin 2) k (⟨t.val % 48 * 512 + l.val, by omega⟩ : Fin 24576)) := by
  unfold colAt
  refine Finset.sum_congr rfl fun k _ => ?_
  rw [ha, hw, blk0, blk1, mul_comm]

theorem ldA0 (x : Vec Ideal S2x4096x128 .f32) (k : Fin 4096) (d : Fin 128) : View.ld x r0_0 (ix3 (0 : Fin 1) k d) = x (ix3 (0 : Fin 2) k d) := by
  pointwise
theorem ldA1 (x : Vec Ideal S2x4096x128 .f32) (k : Fin 4096) (d : Fin 128) : View.ld x r0_7 (ix3 (0 : Fin 1) k d) = x (ix3 (1 : Fin 2) k d) := by
  pointwise
theorem ldW0 (x : Vec Ideal S1x4096x512 .f32) (k : Fin 4096) (d : Fin 128) (l : Fin 512) (h : d.val = l.val) :
    View.ld x r0_1 (ix3 (0 : Fin 1) k d) = x (ix3 (0 : Fin 1) k l) := by
  have hl : d.val < 512 := h ▸ l.isLt
  obtain rfl : l = ⟨d.val, hl⟩ := Fin.ext h.symm
  pointwise
theorem ldW1 (x : Vec Ideal S1x4096x512 .f32) (k : Fin 4096) (d : Fin 128) (l : Fin 512) (h : 128 + d.val = l.val) :
    View.ld x r0_2 (ix3 (0 : Fin 1) k d) = x (ix3 (0 : Fin 1) k l) := by
  have hl : 128 + d.val < 512 := h ▸ l.isLt
  obtain rfl : l = ⟨128 + d.val, hl⟩ := Fin.ext h.symm
  pointwise
theorem ldW2 (x : Vec Ideal S1x4096x512 .f32) (k : Fin 4096) (d : Fin 128) (l : Fin 512) (h : 256 + d.val = l.val) :
    View.ld x r0_3 (ix3 (0 : Fin 1) k d) = x (ix3 (0 : Fin 1) k l) := by
  have hl : 256 + d.val < 512 := h ▸ l.isLt
  obtain rfl : l = ⟨256 + d.val, hl⟩ := Fin.ext h.symm
  pointwise
theorem ldW3 (x : Vec Ideal S1x4096x512 .f32) (k : Fin 4096) (d : Fin 128) (l : Fin 512) (h : 384 + d.val = l.val) :
    View.ld x r0_4 (ix3 (0 : Fin 1) k d) = x (ix3 (0 : Fin 1) k l) := by
  have hl : 384 + d.val < 512 := h ▸ l.isLt
  obtain rfl : l = ⟨384 + d.val, hl⟩ := Fin.ext h.symm
  pointwise
theorem ldB (x : Vec Ideal S1x1x512 .f32) (l : Fin 512) : View.ld x r0_5 (ix3 (0 : Fin 1) (0 : Fin 1) l) = x (ix3 (0 : Fin 1) (0 : Fin 1) l) := by
  pointwise

theorem point (t : Fin cfg0.N) (b : Fin 2) (l : Fin 512) :
    out0_3 (F := Ideal) (iblk m c 0 t) (iblk m c 1 t) (iblk m c 2 t) (ix3 (0 : Fin 1) b l)
      = entry (argC m c) (argW m c) (argB m c) (⟨t.val / 48, by have := (idx t).2.2.2.2; omega⟩ : Fin 2) b (⟨t.val % 48 * 512 + l.val, by omega⟩ : Fin 24576) := by
  canon_tiles x hx
  case piece0 =>
    idx_vars x
    obtain rfl : x0 = 0 := Subsingleton.elim _ _
    obtain rfl : x1 = 0 := Subsingleton.elim _ _
    obtain rfl : b = 1 := Fin.ext hx1
    obtain rfl : l = x2 := Fin.ext hx2
    refine (row1_at _ _ _ _ _ _ _ _ (fun d hd => col_eq m c t 1 l _ _ d (fun k => ldA1 _ k d) (fun k => ldW0 _ k d l hd))
      (fun d hd => col_eq m c t 1 l _ _ d (fun k => ldA1 _ k d) (fun k => ldW1 _ k d l hd))
      (fun d hd => col_eq m c t 1 l _ _ d (fun k => ldA1 _ k d) (fun k => ldW2 _ k d l hd))
      (fun d hd => col_eq m c t 1 l _ _ d (fun k => ldA1 _ k d) (fun k => ldW3 _ k d l hd))).trans ?_
    exact congrArg (_ + ·) ((ldB _ l).trans (blk2 m c t l))
  case piece1 =>
    idx_vars x
    obtain rfl : x0 = 0 := Subsingleton.elim _ _
    obtain rfl : x1 = 0 := Subsingleton.elim _ _
    obtain rfl : b = 0 := Fin.ext hx1
    obtain rfl : l = x2 := Fin.ext hx2
    refine (row0_at _ _ _ _ _ _ _ _ (fun d hd => col_eq m c t 0 l _ _ d (fun k => ldA0 _ k d) (fun k => ldW0 _ k d l hd))
      (fun d hd => col_eq m c t 0 l _ _ d (fun k => ldA0 _ k d) (fun k => ldW1 _ k d l hd))
      (fun d hd => col_eq m c t 0 l _ _ d (fun k => ldA0 _ k d) (fun k => ldW2 _ k d l hd))
      (fun d hd => col_eq m c t 0 l _ _ d (fun k => ldA0 _ k d) (fun k => ldW3 _ k d l hd))).trans ?_
    exact congrArg (_ + ·) ((ldB _ l).trans (blk2 m c t l))

/-- The kernel's result array is the reference's. -/
theorem final : (dats m 0 c).arrAt 3 (cfgs 0).N = ref (argC m c) (argW m c) (argB m c) := by
  refine (dats m 0 c).arrAt_eq_of_covers 3 _ (by decide +kernel) fun t _ y => ?_
  blk_simp
  rw [after0_3]
  have ht := (idx t).2.2.2.2
  idx_vars y
  obtain rfl : y0 = 0 := Subsingleton.elim _ _
  refine Eq.trans (b := ref (argC m c) (argW m c) (argB m c) (ix3 (⟨t.val / 48, by omega⟩ : Fin 2) y1 (⟨t.val % 48 * 512 + y2.val, by omega⟩ : Fin 24576))) ?_ (by blk_ext [idx t])
  rw [ref_at]
  exact point m c t y1 y2

end Cert.Proof.ModIdeal

end
-- ==== Proof.Claims.Mod.lean ====
/-
  The modulation's claims: the frames of the kernel and of the reference, and the equality of their results.
-/
module

public import proofs.«01_k».proof.Proof.Gen.Mod.Frame
public import proofs.«01_k».proof.Proof.ModIdeal.Value
public import proofs.«01_k».proof.Defs

@[expose] public section

set_option maxRecDepth 16384

noncomputable section

namespace Cert.Proof.Claims

open Idealize.ShloMosaic Idealize.ShloMosaic.TcCoe Idealize.SL.Sem

/-- The kernel's frame. -/
theorem mod_frame : Cert.quiescent_Mod (hMod := Cert.Mod.Gen.facts) :=
  fun m ρ _ => Cert.Mod.Gen.frame m ρ

/-- The idealized kernel's frame. -/
theorem modIdeal_frame : Cert.quiescent_ModIdeal (hModIdeal := Cert.ModIdeal.Gen.facts) :=
  fun m ρ _ => Cert.ModIdeal.Gen.frame m ρ

/-- The idealized reference's frame. -/
theorem modRef_frame : Cert.quiescent_ModRefIdeal (hModRefIdeal := Cert.ModRefIdeal.Gen.facts) := fun m g _ =>
  θ_run_and (by run_from Cert.ModRefIdeal.Value.run m g)
    ((θ_run _ _ _).mono (fun r _ => Idealize.ShloMosaic.sem_eq_zero_of_no_sems (by decide) r.2) (Cert.ModRefIdeal.Value.run m g))

/-- The kernel's result is the reference's. -/
theorem mod_algebraic : Cert.algebraic_ModIdeal_ModRefIdeal (hModIdeal := Cert.ModIdeal.Gen.facts) (hModRefIdeal := Cert.ModRefIdeal.Gen.facts) := by
  pair_intro
  · run_from Cert.ModIdeal.Value.run_blocks m g
  · run_from Cert.ModRefIdeal.Value.run m' g'
    rw [(hagree c).2.2]
    exact (Cert.Proof.ModIdeal.final m c).symm

end Cert.Proof.Claims

end
-- ==== Proof.Cumsum.lean ====
/-
  The host's running sum along the middle axis, at an index, for any sizes.
-/
module

public import Idealize.ShloMosaic.Lib.Pipeline.ValueKit
public import Idealize.ShloMosaic.Lib.WordCmp

@[expose] public section

noncomputable section

namespace Cert.Proof.Cumsum

open Idealize.ShloMosaic

/-- A left fold of additions is the start plus the sum. -/
theorem foldl_add {ι : Type} (f : EReal → ι → EReal) (g : ι → EReal) (hf : ∀ r n, f r n = r + g n) (l : List ι) :
    ∀ v : EReal, l.foldl f v = v + (l.map g).sum := by
  induction l with
  | nil => intro v; simp
  | cons a l ih => intro v; rw [List.foldl_cons, ih, hf, List.map_cons, List.sum_cons, add_assoc]

/-- The window's terms that lie inside, re-counted from the first entry of the axis. -/
theorem shift_sum (g : ℕ → EReal) (p s : ℕ) (h : s ≤ p) :
    (∑ w ∈ Finset.range (p + 1), if p ≤ s + w then g (s + w - p) else 0) = ∑ q ∈ Finset.range (s + 1), g q := by
  rw [← Finset.sum_filter]
  refine Finset.sum_nbij' (fun w => s + w - p) (fun q => q + p - s) ?_ ?_ ?_ ?_ ?_
  · intro w hw
    simp only [Finset.mem_filter, Finset.mem_range] at hw ⊢
    omega
  · intro q hq
    simp only [Finset.mem_filter, Finset.mem_range] at hq ⊢
    omega
  · intro w hw
    simp only [Finset.mem_filter, Finset.mem_range] at hw
    omega
  · intro q hq
    simp only [Finset.mem_range] at hq
    omega
  · intro w _
    rfl

/-- The running sum along the middle axis, as a window of the whole axis padded below by one less: entry `s` is the sum of the
    entries up to `s`. -/
theorem at_index {B N S p : ℕ} (hp : p + 1 = S) (x : FVec Ideal ⟨3, ![B, S, N]⟩ .f32) (init : FVec Ideal ⟨0, ![]⟩ .f32) (hi : ∀ i, init i = (0 : EReal))
    (h : (⟨3, ![B, S, N]⟩ : Shape).ReduceWindows ![1, S, 1] ![1, 1, 1] ![0, p, 0] ![0, 0, 0] ⟨3, ![B, S, N]⟩) (hu : 0 < (⟨0, ![]⟩ : Shape).numel)
    (b : Fin B) (s : Fin S) (n : Fin N) (g : ℕ → EReal) (hg : ∀ q : Fin S, x (ix3 b q n) = g q.val) :
    (Host.reduceWindowAdd ![1, S, 1] ![1, 1, 1] ![0, p, 0] ![0, 0, 0] x init h hu (ix3 b s n) : EReal) = ∑ q ∈ Finset.range (s.val + 1), g q := by
  subst hp
  have hs := s.isLt
  have hv : ∀ i, init i = (0 : EReal) := hi
  show (List.finRange _).foldl _ _ = _
  refine (foldl_add _ (fun k => (fun W : (⟨3, ![1, p + 1, 1]⟩ : Shape).Idx => if p ≤ s.val + (W 1).val then g (s.val + (W 1).val - p) else 0)
    ((⟨3, ![1, p + 1, 1]⟩ : Shape).rowMajor.symm k)) (fun r k => congrArg (r + ·) ?_) _ _).trans ?_
  · let W : (⟨3, ![1, p + 1, 1]⟩ : Shape).Idx := (⟨3, ![1, p + 1, 1]⟩ : Shape).rowMajor.symm k
    have w0 : (W 0).val = 0 := Nat.lt_one_iff.1 (W 0).isLt
    have w1 : (W 1).val < p + 1 := (W 1).isLt
    have w2 : (W 2).val = 0 := Nat.lt_one_iff.1 (W 2).isLt
    change _ = if p ≤ s.val + (W 1).val then g (s.val + (W 1).val - p) else 0
    split
    · next hin =>
      have h1 := hin 1
      change p ≤ s.val * 1 + (W 1).val ∧ s.val * 1 + (W 1).val - p < p + 1 at h1
      rw [Nat.mul_one] at h1
      rw [if_pos h1.1]
      refine (congrArg x (funext fun a => Fin.ext ?_)).trans (hg ⟨s.val + (W 1).val - p, h1.2⟩)
      match a with
      | ⟨0, _⟩ =>
        show b.val * 1 + (W 0).val - 0 = b.val
        omega
      | ⟨1, _⟩ =>
        show s.val * 1 + (W 1).val - p = s.val + (W 1).val - p
        omega
      | ⟨2, _⟩ =>
        show n.val * 1 + (W 2).val - 0 = n.val
        omega
    · next hin =>
      rw [if_neg fun hle => hin fun a => by
        match a with
        | ⟨0, _⟩ =>
          show 0 ≤ b.val * 1 + (W 0).val ∧ b.val * 1 + (W 0).val - 0 < B
          omega
        | ⟨1, _⟩ =>
          show p ≤ s.val * 1 + (W 1).val ∧ s.val * 1 + (W 1).val - p < p + 1
          omega
        | ⟨2, _⟩ =>
          show 0 ≤ n.val * 1 + (W 2).val ∧ n.val * 1 + (W 2).val - 0 < N
          omega]
      exact hv _
  · rw [hv, zero_add, ← Fin.sum_univ_def]
    refine (Equiv.sum_comp (⟨3, ![1, p + 1, 1]⟩ : Shape).rowMajor.symm
      (fun W : (⟨3, ![1, p + 1, 1]⟩ : Shape).Idx => if p ≤ s.val + (W 1).val then g (s.val + (W 1).val - p) else 0)).trans ?_
    rw [← shift_sum g p s.val (by omega), Finset.sum_range]
    refine (Fintype.sum_bijective (fun w : Fin (p + 1) => (ix3 (0 : Fin 1) w (0 : Fin 1) : (⟨3, ![1, p + 1, 1]⟩ : Shape).Idx)) ⟨fun w w' e => ?_, fun W => ⟨W 1, ?_⟩⟩ _ _ fun w => ?_).symm
    · exact congrFun e 1
    · funext a
      match a with
      | ⟨0, _⟩ => exact Subsingleton.elim (α := Fin 1) _ _
      | ⟨1, _⟩ => rfl
      | ⟨2, _⟩ => exact Subsingleton.elim (α := Fin 1) _ _
    · rfl

/-- A comparison of two small numbers, read as a choice. -/
theorem select_le (q r : ℕ) (hq : q < 2 ^ 31) (hr : r < 2 ^ 31) (x y : EReal) :
    Scalar.select (IntOp.cmpi CmpIPredicate.sle (BitVec.ofNat 32 q) (BitVec.ofNat 32 r)) x y = if q ≤ r then x else y := by
  rw [WordCmp.cmpi_sle_ofNat (w := 32) hq hr]
  by_cases h : q ≤ r
  · rw [if_pos h, decide_eq_true h]; rfl
  · rw [if_neg h, decide_eq_false h]; rfl

/-- A sum over the rows up to one of them is a sum over an initial range. -/
theorem sum_upto {N : ℕ} (g : ℕ → EReal) (r : Fin N) : (∑ q : Fin N, if q.val ≤ r.val then g q.val else 0) = ∑ q ∈ Finset.range (r.val + 1), g q := by
  rw [← Finset.sum_range (fun q => if q ≤ r.val then g q else 0), ← Finset.sum_filter]
  refine Finset.sum_congr (Finset.ext fun q => ?_) fun _ _ => rfl
  simp only [Finset.mem_filter, Finset.mem_range]
  have := r.isLt
  omega

/-- A sum over the rows up to one of them in its own chunk of 64. -/
theorem sum_chunk {N : ℕ} (g : ℕ → EReal) (r : Fin N) :
    (∑ q : Fin N, if q.val ≤ r.val ∧ r.val / 64 = q.val / 64 then g q.val else 0) = ∑ q ∈ Finset.range (r.val % 64 + 1), g (r.val / 64 * 64 + q) := by
  rw [← Finset.sum_range (fun q => if q ≤ r.val ∧ r.val / 64 = q / 64 then g q else 0), ← Finset.sum_filter]
  have hr := r.isLt
  refine Finset.sum_nbij' (fun q => q - r.val / 64 * 64) (fun q => r.val / 64 * 64 + q) ?_ ?_ ?_ ?_ ?_
  · intro q hq
    simp only [Finset.mem_filter, Finset.mem_range] at hq ⊢
    omega
  · intro q hq
    simp only [Finset.mem_filter, Finset.mem_range] at hq ⊢
    omega
  · intro q hq
    simp only [Finset.mem_filter, Finset.mem_range] at hq
    omega
  · intro q hq
    omega
  · intro q hq
    simp only [Finset.mem_filter, Finset.mem_range] at hq
    exact congrArg g (by omega)

end Cert.Proof.Cumsum

end
-- ==== Proof.FoxGatesIdeal.Value.lean ====
/-
  The forget gates' result array over the extended reals is the plain reference's.
-/
module

public import proofs.«01_k».proof.Proof.Gen.FoxGatesIdeal.Value
public import proofs.«01_k».proof.Proof.Gen.FoxGatesRefIdeal.Run
public import proofs.«01_k».proof.Proof.Cumsum

@[expose] public section

set_option maxRecDepth 16384

noncomputable section

namespace Cert.Proof.FoxGatesIdeal

open Cert.FoxGatesIdeal Cert.FoxGatesIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![0, 0]
    ∧ win0_3.index t = ![t.val, 0] ∧ t.val < 16 :=
  (by decide +kernel : ∀ t : Fin grid0.N, _)

theorem lt_points (t : Fin cfg0.N) : t.val < 16 := (idx t).2.2.2.2

variable (m : (ℓ : Loc nD τ sig) → Buf (Elt Ideal) ℓ) (c : Dev nD)

/-- The activations, as the run finds them. -/
abbrev argH : FVec Ideal S8192x4096 .bf16 := m ((c : Thread nD τ).loc main_arg0)
/-- The weights, as the run finds them. -/
abbrev argW : FVec Ideal S1x4096x16416 .f32 := m ((c : Thread nD τ).loc main_arg1)
/-- The offsets, as the run finds them. -/
abbrev argB : FVec Ideal S1x32 .f32 := m ((c : Thread nD τ).loc main_arg2)

theorem blk0 (t : Fin cfg0.N) (r : Fin 512) (k : Fin 4096) :
    (iblk m c 0 t : FVec Ideal S512x4096 .bf16) (ix2 r k) = argH m c (ix2 (⟨t.val * 512 + r.val, by have := lt_points t; omega⟩ : Fin 8192) k) := by
  blk_point [iblk, V, idx t]
theorem blk1 (t : Fin cfg0.N) (k : Fin 4096) (n : Fin 32) :
    (iblk m c 1 t : FVec Ideal S4096x32 .f32) (ix2 k n) = argW m c (ix3 (0 : Fin 1) k (⟨16384 + n.val, by omega⟩ : Fin 16416)) := by
  blk_point [iblk, V, idx t]
theorem blk2 (t : Fin cfg0.N) (n : Fin 32) :
    (iblk m c 2 t : FVec Ideal S1x32 .f32) (ix2 (0 : Fin 1) n) = argB m c (ix2 (0 : Fin 1) n) := by
  blk_point [iblk, V, idx t]

/-- The logistic's logarithm, in the stable form. -/
def logSig (p : EReal) : EReal := -(max (-p) 0 + Ideal.log (1 + Ideal.exp (-(FloatOps.absf (F := Ideal) (φ := .f32) (-p)))))

/-- The logarithm of a row's forget gate. -/
def gate (H : FVec Ideal S8192x4096 .bf16) (W : FVec Ideal S1x4096x16416 .f32) (B : FVec Ideal S1x32 .f32) (r : Fin 8192) (n : Fin 32) : EReal :=
  logSig ((∑ k : Fin 4096, H (ix2 r k) * W (ix3 (0 : Fin 1) k (⟨16384 + n.val, by omega⟩ : Fin 16416))) + B (ix2 (0 : Fin 1) n))

/-- The same with the row a natural number. -/
def gateN (H : FVec Ideal S8192x4096 .bf16) (W : FVec Ideal S1x4096x16416 .f32) (B : FVec Ideal S1x32 .f32) (n : Fin 32) (r : ℕ) : EReal :=
  if h : r < 8192 then gate H W B ⟨r, h⟩ n else 0

theorem gateN_eq (H : FVec Ideal S8192x4096 .bf16) (W : FVec Ideal S1x4096x16416 .f32) (B : FVec Ideal S1x32 .f32) (n : Fin 32) (r : ℕ) (h : r < 8192) :
    gateN H W B n r = gate H W B ⟨r, h⟩ n := dif_pos h

/-- The projected gate's negation in the reference. -/
def neg (H : FVec Ideal S8192x4096 .bf16) (W : FVec Ideal S1x4096x16416 .f32) (B : FVec Ideal S1x32 .f32) : FVec Ideal Cert.FoxGatesRefIdeal.S8192x32 .f32 :=
  Host.negf (addf (extractStridedSlice Cert.FoxGatesRefIdeal.S8192x32 ![0, 16384] (Host.dotGeneral Cert.FoxGatesRefIdeal.dot_S8192x4096_S4096x16416_S8192x16416_1_0_0_1_n_n none (extf .f32 H Cert.FoxGatesRefIdeal.Gen.bitsLt_bf16_f32) (shapeCast _ W Cert.FoxGatesRefIdeal.Gen.shapeCasts_S1x4096x16416_S4096x16416)) Cert.FoxGatesRefIdeal.Gen.slices_S8192x16416_S8192x32_0_16384)
    (broadcastInDim Cert.FoxGatesRefIdeal.S8192x32 ![0, 1] Cert.FoxGatesRefIdeal.Gen.bcast_S1x32_S8192x32_0_1 (broadcastInDim Cert.FoxGatesRefIdeal.S1x32 ![1] Cert.FoxGatesRefIdeal.Gen.bcast_S32_S1x32_1 (shapeCast _ B Cert.FoxGatesRefIdeal.Gen.shapeCasts_S1x32_S32))))

/-- A zero of every entry in the reference. -/
def zeros : FVec Ideal Cert.FoxGatesRefIdeal.S8192x32 .f32 :=
  broadcastInDim Cert.FoxGatesRefIdeal.S8192x32 ![] Cert.FoxGatesRefIdeal.Gen.bcast_S_S8192x32 (constant Cert.FoxGatesRefIdeal.S_ .f32 0x00000000#32)

/-- The logarithm of the gates in the reference. -/
def logs (H : FVec Ideal S8192x4096 .bf16) (W : FVec Ideal S1x4096x16416 .f32) (B : FVec Ideal S1x32 .f32) : FVec Ideal Cert.FoxGatesRefIdeal.S8192x32 .f32 :=
  Host.negf (select (cmpf .une (subf (neg H W B) zeros) (subf (neg H W B) zeros)) (addf (neg H W B) zeros)
    (addf (maximumf (neg H W B) zeros) (Host.log1p (Host.exp (Host.negf (Host.absf (subf (neg H W B) zeros)))))))

/-- The reference's result. -/
def ref (H : FVec Ideal S8192x4096 .bf16) (W : FVec Ideal S1x4096x16416 .f32) (B : FVec Ideal S1x32 .f32) : FVec Ideal S8192x32 .f32 :=
  shapeCast Cert.FoxGatesRefIdeal.S8192x32 (Host.reduceWindowAdd ![1, 4096, 1] ![1, 1, 1] ![0, 4095, 0] ![0, 0, 0]
    (shapeCast Cert.FoxGatesRefIdeal.S2x4096x32 (logs H W B) Cert.FoxGatesRefIdeal.Gen.shapeCasts_S8192x32_S2x4096x32)
    (broadcastInDim Cert.FoxGatesRefIdeal.S_ ![] Cert.FoxGatesRefIdeal.Gen.bcast_S_S_ (constant Cert.FoxGatesRefIdeal.S_ .f32 0x00000000#32))
    Cert.FoxGatesRefIdeal.Gen.reduceWindows_S2x4096x32_S2x4096x32_w1s1p0_0_w4096s1p4095_0_w1s1p0_0 Cert.FoxGatesRefIdeal.Gen.h_S_) Cert.FoxGatesRefIdeal.Gen.shapeCasts_S2x4096x32_S8192x32

variable (H : FVec Ideal S8192x4096 .bf16) (W : FVec Ideal S1x4096x16416 .f32) (B : FVec Ideal S1x32 .f32)

theorem logs_at (r : Fin 8192) (n : Fin 32) : logs H W B (ix2 r n) = gate H W B r n := by
  pointwise [logs, neg, zeros]
  rw [if_neg fun h => h rfl]
  rfl

theorem cast_at (A : FVec Ideal Cert.FoxGatesRefIdeal.S2x4096x32 .f32) (b : Fin 2) (s : Fin 4096) (n : Fin 32) :
    shapeCast Cert.FoxGatesRefIdeal.S8192x32 A Cert.FoxGatesRefIdeal.Gen.shapeCasts_S2x4096x32_S8192x32 (ix2 (⟨b.val * 4096 + s.val, by omega⟩ : Fin 8192) n)
      = A (ix3 b s n) := by
  pointwise

theorem ref_at (b : Fin 2) (s : Fin 4096) (n : Fin 32) : ref H W B (ix2 (⟨b.val * 4096 + s.val, by omega⟩ : Fin 8192) n)
    = ∑ q ∈ Finset.range (s.val + 1), gateN H W B n (b.val * 4096 + q) := by
  refine Eq.trans ?_ (Cumsum.at_index (p := 4095) rfl (shapeCast Cert.FoxGatesRefIdeal.S2x4096x32 (logs H W B) Cert.FoxGatesRefIdeal.Gen.shapeCasts_S8192x32_S2x4096x32)
    (broadcastInDim Cert.FoxGatesRefIdeal.S_ ![] Cert.FoxGatesRefIdeal.Gen.bcast_S_S_ (constant Cert.FoxGatesRefIdeal.S_ .f32 0x00000000#32)) (fun i => ?_)
    Cert.FoxGatesRefIdeal.Gen.reduceWindows_S2x4096x32_S2x4096x32_w1s1p0_0_w4096s1p4095_0_w1s1p0_0 Cert.FoxGatesRefIdeal.Gen.h_S_ b s n
    (fun q => gateN H W B n (b.val * 4096 + q)) fun q => ?_)
  · exact cast_at _ b s n
  · obtain rfl : i = ix0 := funext fun a => a.elim0
    pointwise
  · pointwise
    rw [gateN_eq H W B n _ (by omega)]
    exact logs_at H W B _ n

theorem pay3_at (h : Vec Ideal S512x4096 .bf16) (w : Vec Ideal S4096x32 .f32) (o : Vec Ideal S1x32 .f32) (v : Vec Ideal S1x32 .f32) (r : Fin 512) (n : Fin 32) :
    k0_pay3 (F := Ideal) h w o v (ix2 r n) = (∑ q : Fin 512, if q.val ≤ r.val then logSig ((∑ k : Fin 4096, h (ix2 q k) * w (ix2 k n)) + o (ix2 (0 : Fin 1) n)) else 0) + v (ix2 (0 : Fin 1) n) := by
  pointwise [k0_pay3]
  refine congrArg (· + _) (Finset.sum_congr rfl fun q _ => ?_)
  rw [Cumsum.select_le _ _ (by omega) (by omega)]
  simp only [zero_sub]
  rfl

/-- What a grid point computes: the sums of the gates' logarithms up to each row, on top of what is carried. -/
theorem rows (t : Fin cfg0.N) (v : Vec Ideal S1x32 .f32) (n : Fin 32) (hv : v (ix2 (0 : Fin 1) n) = ∑ q ∈ Finset.range (t.val % 8 * 512), gateN (argH m c) (argW m c) (argB m c) n (t.val / 8 * 4096 + q)) (r : Fin 512) :
    k0_pay3 (F := Ideal) (iblk m c 0 t) (iblk m c 1 t) (iblk m c 2 t) v (ix2 r n)
      = ∑ q ∈ Finset.range (t.val % 8 * 512 + r.val + 1), gateN (argH m c) (argW m c) (argB m c) n (t.val / 8 * 4096 + q) := by
  have ht := lt_points t
  rw [pay3_at, hv, add_comm, Nat.add_assoc, Finset.sum_range_add]
  refine congrArg (_ + ·) ?_
  rw [← Cumsum.sum_upto (fun q => gateN (argH m c) (argW m c) (argB m c) n (t.val / 8 * 4096 + (t.val % 8 * 512 + q)))]
  refine Finset.sum_congr rfl fun q _ => ?_
  refine ite_congr rfl (fun _ => ?_) fun _ => rfl
  rw [show t.val / 8 * 4096 + (t.val % 8 * 512 + q.val) = t.val * 512 + q.val by omega, gateN_eq _ _ _ _ _ (by omega), blk2]
  simp only [blk0, blk1]
  rfl

/-- Reading a whole scratch gives what it holds. -/
theorem read0 (x : Vec Ideal S1x32 .f32) (hw : (Memref.whole cc0_scratch0).IsWhole) : View.read (Elt Ideal) (View.whole cc0_scratch0) (hw.unread x) = x :=
  Memref.IsWhole.read_unread (m := Memref.whole cc0_scratch0) _ _

theorem pay1_at (x : FVec Ideal S512x32 .f32) (n : Fin 32) : k0_pay1 (F := Ideal) x (ix2 (0 : Fin 1) n) = x (ix2 (511 : Fin 512) n) := by
  pointwise [k0_pay1]
theorem zero_at (n : Fin 32) : k0_pay2 (F := Ideal) (ix2 (0 : Fin 1) n) = (0 : EReal) := by
  pointwise [k0_pay2]

/-- The sums up to a grid point's last row. -/
def Carried (p : ℕ) (v : Vec Ideal S1x32 .f32) : Prop :=
  ∀ n : Fin 32, v (ix2 (0 : Fin 1) n) = ∑ q ∈ Finset.range (p % 8 * 512 + 512), gateN (argH m c) (argW m c) (argB m c) n (p / 8 * 4096 + q)

/-- Nothing is carried into a sequence's first block. -/
theorem start (t : Fin cfg0.N) (h : t.val % 8 = 0) (n : Fin 32) (v : EReal) (hv : v = 0) :
    v = ∑ q ∈ Finset.range (t.val % 8 * 512), gateN (argH m c) (argW m c) (argB m c) n (t.val / 8 * 4096 + q) := by
  rw [h, hv]
  simp

/-- What the point before left is the sum up to the block's first row. -/
theorem step (t : Fin cfg0.N) (h : ¬ t.val % 8 = 0) (v : Vec Ideal S1x32 .f32) (prev : Carried m c (t.val - 1) v) (n : Fin 32) :
    v (ix2 (0 : Fin 1) n) = ∑ q ∈ Finset.range (t.val % 8 * 512), gateN (argH m c) (argW m c) (argB m c) n (t.val / 8 * 4096 + q) := by
  rw [prev n, show (t.val - 1) % 8 * 512 + 512 = t.val % 8 * 512 by omega, show (t.val - 1) / 8 = t.val / 8 by omega]

/-- A point at the start of a sequence carries its sums on. -/
theorem carry_A (t : Fin cfg0.N) (h : t.val % 8 = 0) : Carried m c t.val (outsAt0 m c t.val t.isLt).2 := by
  intro n
  rw [outsAt0_A m c t h]
  frame_out
  rw [pay1_at]
  exact rows m c t _ n (start m c t h n _ (zero_at n)) 511

/-- A later point carries its sums on. -/
theorem carry_B (t : Fin cfg0.N) (h : ¬ t.val % 8 = 0) (hn) (prev : Carried m c (t.val - 1) (outsAt0 m c (t.val - 1) hn).2) :
    Carried m c t.val (outsAt0 m c t.val t.isLt).2 := by
  intro n
  rw [outsAt0_B m c t h]
  frame_out
  rw [pay1_at]
  exact rows m c t _ n ((congrFun (read0 _ _) _).trans (step m c t h _ prev n)) 511

/-- The carried scratch after every grid point. -/
theorem carried (n : ℕ) : ∀ hn : n < cfg0.N, Carried m c n (outsAt0 m c n hn).2 := by
  induction n with
  | zero => exact fun hn => carry_A m c ⟨0, hn⟩ rfl
  | succ n ih =>
    intro hn
    by_cases h : (n + 1) % 8 = 0
    · exact carry_A m c ⟨n + 1, hn⟩ h
    · exact carry_B m c ⟨n + 1, hn⟩ h (by simp only [Nat.add_sub_cancel]; omega) (ih _)

/-- What a grid point writes is the reference's block. -/
theorem point (t : Fin cfg0.N) (r : Fin 512) (n : Fin 32) : (outsAt0 m c t.val t.isLt).1 (ix2 r n)
    = ref (argH m c) (argW m c) (argB m c) (ix2 (⟨t.val * 512 + r.val, by have := lt_points t; omega⟩ : Fin 8192) n) := by
  have ht := lt_points t
  have e := ref_at (argH m c) (argW m c) (argB m c) (⟨t.val / 8, by omega⟩ : Fin 2) (⟨t.val % 8 * 512 + r.val, by omega⟩ : Fin 4096) n
  simp only [show t.val / 8 * 4096 + (t.val % 8 * 512 + r.val) = t.val * 512 + r.val by omega] at e
  rw [e]
  by_cases h : t.val % 8 = 0
  · rw [outsAt0_A m c t h]
    frame_out
    exact rows m c t _ n (start m c t h n _ (zero_at n)) r
  · have prev := carried m c (t.val - 1) (Nat.lt_of_le_of_lt (Nat.sub_le _ _) t.isLt)
    rw [outsAt0_B m c t h]
    frame_out
    exact rows m c t _ n ((congrFun (read0 _ _) _).trans (step m c t h _ prev n)) r

/-- The kernel's result array is the reference's. -/
theorem final : (dats m 0 c).arrAt 3 (cfgs 0).N = ref (argH m c) (argW m c) (argB m c) := by
  refine (dats m 0 c).arrAt_eq_of_covers 3 _ (by decide +kernel) fun t _ y => ?_
  blk_simp
  rw [after0_3]
  idx_vars y
  have ht := lt_points t
  have hp := point m c t y0 y1
  revert hp
  generalize ref (argH m c) (argW m c) (argB m c) = R
  intro hp
  refine hp.trans ?_
  blk_ext [idx t]

end Cert.Proof.FoxGatesIdeal

end
-- ==== Proof.Claims.FoxGates.lean ====
/-
  The forget gates's claims: the frames of the kernel and of the reference, and the equality of their results.
-/
module

public import proofs.«01_k».proof.Proof.Gen.FoxGates.Frame
public import proofs.«01_k».proof.Proof.FoxGatesIdeal.Value
public import proofs.«01_k».proof.Defs

@[expose] public section

set_option maxRecDepth 131072

noncomputable section

namespace Cert.Proof.Claims

open Idealize.ShloMosaic Idealize.ShloMosaic.TcCoe Idealize.SL.Sem

/-- The kernel's frame. -/
theorem foxGates_frame : Cert.quiescent_FoxGates (hFoxGates := Cert.FoxGates.Gen.facts) :=
  fun m ρ _ => Cert.FoxGates.Gen.frame m ρ

/-- The idealized kernel's frame. -/
theorem foxGatesIdeal_frame : Cert.quiescent_FoxGatesIdeal (hFoxGatesIdeal := Cert.FoxGatesIdeal.Gen.facts) :=
  fun m ρ _ => Cert.FoxGatesIdeal.Gen.frame m ρ

/-- The idealized reference's frame. -/
theorem foxGatesRef_frame : Cert.quiescent_FoxGatesRefIdeal (hFoxGatesRefIdeal := Cert.FoxGatesRefIdeal.Gen.facts) := fun m g _ =>
  θ_run_and (by run_from Cert.FoxGatesRefIdeal.Value.run m g)
    ((θ_run _ _ _).mono (fun r _ => Idealize.ShloMosaic.sem_eq_zero_of_no_sems (by decide) r.2) (Cert.FoxGatesRefIdeal.Value.run m g))

/-- The kernel's result is the reference's. -/
theorem foxGates_algebraic : Cert.algebraic_FoxGatesIdeal_FoxGatesRefIdeal (hFoxGatesIdeal := Cert.FoxGatesIdeal.Gen.facts) (hFoxGatesRefIdeal := Cert.FoxGatesRefIdeal.Gen.facts) := by
  pair_intro
  · run_from Cert.FoxGatesIdeal.Value.run_blocks m g
  · run_from Cert.FoxGatesRefIdeal.Value.run m' g'
    exact (Cert.Proof.FoxGatesIdeal.final m c).symm

end Cert.Proof.Claims

end
-- ==== Proof.GdnGatesIdeal.Value.lean ====
/-
  The delta gates' result arrays over the extended reals are the plain reference's.
-/
module

public import proofs.«01_k».proof.Proof.Gen.GdnGatesIdeal.Value
public import proofs.«01_k».proof.Proof.Gen.GdnGatesRefIdeal.Run
public import proofs.«01_k».proof.Proof.Cumsum

@[expose] public section

set_option maxRecDepth 16384

noncomputable section

namespace Cert.Proof.GdnGatesIdeal

open Cert.GdnGatesIdeal Cert.GdnGatesIdeal.Gen
open Idealize.ShloMosaic Idealize.ShloMosaic.TcCoe Idealize.SL.Sem
open Idealize.ShloMosaic.Pipeline (Dat)

/-- Every window's block at a grid point. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ t.val < 32 :=
  (by decide +kernel : ∀ t : Fin grid0.N, _)

theorem lt_points (t : Fin cfg0.N) : t.val < 32 := (idx t).2.2.2.2.2.2.2

variable (m : (ℓ : Loc nD τ sig) → Buf (Elt Ideal) ℓ) (c : Dev nD)

/-- The activations, as the run finds them. -/
abbrev argH : FVec Ideal S8192x4096 .bf16 := m ((c : Thread nD τ).loc main_arg0)
/-- The weights, as the run finds them. -/
abbrev argW : FVec Ideal S1x4096x16448 .f32 := m ((c : Thread nD τ).loc main_arg1)
/-- The decay rates' logarithms, as the run finds them. -/
abbrev argA : FVec Ideal S1x32 .f32 := m ((c : Thread nD τ).loc main_arg2)
/-- The time steps' offsets, as the run finds them. -/
abbrev argD : FVec Ideal S1x32 .f32 := m ((c : Thread nD τ).loc main_arg3)

theorem blk0 (t : Fin cfg0.N) (r : Fin 256) (k : Fin 4096) :
    (iblk m c 0 t : FVec Ideal S256x4096 .bf16) (ix2 r k) = argH m c (ix2 (⟨t.val * 256 + r.val, by have := lt_points t; omega⟩ : Fin 8192) k) := by
  blk_point [iblk, V, idx t]
theorem blk1 (t : Fin cfg0.N) (k : Fin 4096) (n : Fin 32) :
    (iblk m c 1 t : FVec Ideal S4096x32 .f32) (ix2 k n) = argW m c (ix3 (0 : Fin 1) k (⟨16384 + n.val, by omega⟩ : Fin 16448)) := by
  blk_point [iblk, V, idx t]
theorem blk2 (t : Fin cfg0.N) (k : Fin 4096) (n : Fin 32) :
    (iblk m c 2 t : FVec Ideal S4096x32 .f32) (ix2 k n) = argW m c (ix3 (0 : Fin 1) k (⟨16416 + n.val, by omega⟩ : Fin 16448)) := by
  blk_point [iblk, V, idx t]
theorem blk3 (t : Fin cfg0.N) (n : Fin 32) : (iblk m c 3 t : FVec Ideal S1x32 .f32) (ix2 (0 : Fin 1) n) = argA m c (ix2 (0 : Fin 1) n) := by
  blk_point [iblk, V, idx t]
theorem blk4 (t : Fin cfg0.N) (n : Fin 32) : (iblk m c 4 t : FVec Ideal S1x32 .f32) (ix2 (0 : Fin 1) n) = argD m c (ix2 (0 : Fin 1) n) := by
  blk_point [iblk, V, idx t]

/-- The logistic. -/
def logistic (p : EReal) : EReal := Ideal.div 1 (1 + Ideal.exp (-p))

/-- The softplus, in the stable form. -/
def soft (p : EReal) : EReal := max p 0 + Ideal.log (1 + Ideal.exp (-(FloatOps.absf (F := Ideal) (φ := .f32) p)))

variable (H : FVec Ideal S8192x4096 .bf16) (W : FVec Ideal S1x4096x16448 .f32) (A D : FVec Ideal S1x32 .f32)

/-- A row's update gate. -/
def beta (r : Fin 8192) (n : Fin 32) : EReal :=
  logistic (∑ k : Fin 4096, H (ix2 r k) * W (ix3 (0 : Fin 1) k (⟨16384 + n.val, by omega⟩ : Fin 16448)))

/-- The logarithm of a row's decay. -/
def decay (r : Fin 8192) (n : Fin 32) : EReal :=
  -(Ideal.exp (A (ix2 (0 : Fin 1) n))) * soft ((∑ k : Fin 4096, H (ix2 r k) * W (ix3 (0 : Fin 1) k (⟨16416 + n.val, by omega⟩ : Fin 16448))) + D (ix2 (0 : Fin 1) n))

/-- The same with the row a natural number. -/
def decayN (n : Fin 32) (r : ℕ) : EReal := if h : r < 8192 then decay H W A D ⟨r, h⟩ n else 0

theorem decayN_eq (n : Fin 32) (r : ℕ) (h : r < 8192) : decayN H W A D n r = decay H W A D ⟨r, h⟩ n := dif_pos h

/-- The whole projection in the reference. -/
def proj : FVec Ideal Cert.GdnGatesRefIdeal.S8192x16448 .f32 :=
  Host.dotGeneral Cert.GdnGatesRefIdeal.dot_S8192x4096_S4096x16448_S8192x16448_1_0_0_1_n_n none (extf .f32 H Cert.GdnGatesRefIdeal.Gen.bitsLt_bf16_f32) (shapeCast _ W Cert.GdnGatesRefIdeal.Gen.shapeCasts_S1x4096x16448_S4096x16448)

/-- The reference's first result. -/
def refBeta : FVec Ideal S8192x32 .f32 :=
  Host.divf (broadcastInDim Cert.GdnGatesRefIdeal.S8192x32 ![] Cert.GdnGatesRefIdeal.Gen.bcast_S_S8192x32 (constant Cert.GdnGatesRefIdeal.S_ .f32 0x3F800000#32))
    (addf (broadcastInDim Cert.GdnGatesRefIdeal.S8192x32 ![] Cert.GdnGatesRefIdeal.Gen.bcast_S_S8192x32 (constant Cert.GdnGatesRefIdeal.S_ .f32 0x3F800000#32)) (Host.exp (Host.negf (extractStridedSlice Cert.GdnGatesRefIdeal.S8192x32 ![0, 16384] (proj H W) Cert.GdnGatesRefIdeal.Gen.slices_S8192x16448_S8192x32_0_16384))))

theorem refBeta_at (r : Fin 8192) (n : Fin 32) : refBeta H W (ix2 r n) = beta H W r n := by
  pointwise [refBeta, proj]
  rfl

/-- The softplus's argument in the reference. -/
def pre : FVec Ideal Cert.GdnGatesRefIdeal.S8192x32 .f32 :=
  addf (extractStridedSlice Cert.GdnGatesRefIdeal.S8192x32 ![0, 16416] (proj H W) Cert.GdnGatesRefIdeal.Gen.slices_S8192x16448_S8192x32_0_16416)
    (broadcastInDim Cert.GdnGatesRefIdeal.S8192x32 ![0, 1] Cert.GdnGatesRefIdeal.Gen.bcast_S1x32_S8192x32_0_1 (broadcastInDim Cert.GdnGatesRefIdeal.S1x32 ![1] Cert.GdnGatesRefIdeal.Gen.bcast_S32_S1x32_1 (shapeCast _ D Cert.GdnGatesRefIdeal.Gen.shapeCasts_S1x32_S32)))

/-- A zero of every entry in the reference. -/
def zeros : FVec Ideal Cert.GdnGatesRefIdeal.S8192x32 .f32 := broadcastInDim Cert.GdnGatesRefIdeal.S8192x32 ![] Cert.GdnGatesRefIdeal.Gen.bcast_S_S8192x32 (constant Cert.GdnGatesRefIdeal.S_ .f32 0x00000000#32)

/-- The logarithms of the decays in the reference. -/
def logs : FVec Ideal Cert.GdnGatesRefIdeal.S8192x32 .f32 :=
  mulf (broadcastInDim Cert.GdnGatesRefIdeal.S8192x32 ![0, 1] Cert.GdnGatesRefIdeal.Gen.bcast_S1x32_S8192x32_0_1 (broadcastInDim Cert.GdnGatesRefIdeal.S1x32 ![1] Cert.GdnGatesRefIdeal.Gen.bcast_S32_S1x32_1 (Host.negf (Host.exp (shapeCast _ A Cert.GdnGatesRefIdeal.Gen.shapeCasts_S1x32_S32)))))
    (select (cmpf .une (subf (pre H W D) zeros) (subf (pre H W D) zeros)) (addf (pre H W D) zeros)
      (addf (maximumf (pre H W D) zeros) (Host.log1p (Host.exp (Host.negf (Host.absf (subf (pre H W D) zeros)))))))

theorem logs_at (r : Fin 8192) (n : Fin 32) : logs H W A D (ix2 r n) = decay H W A D r n := by
  pointwise [logs, pre, proj, zeros]
  rw [if_neg fun h => h rfl]
  rfl

/-- The reference's second result. -/
def refG : FVec Ideal S8192x32 .f32 :=
  shapeCast Cert.GdnGatesRefIdeal.S8192x32 (Host.reduceWindowAdd ![1, 64, 1] ![1, 1, 1] ![0, 63, 0] ![0, 0, 0]
    (shapeCast Cert.GdnGatesRefIdeal.S128x64x32 (logs H W A D) Cert.GdnGatesRefIdeal.Gen.shapeCasts_S8192x32_S128x64x32)
    (broadcastInDim Cert.GdnGatesRefIdeal.S_ ![] Cert.GdnGatesRefIdeal.Gen.bcast_S_S_ (constant Cert.GdnGatesRefIdeal.S_ .f32 0x00000000#32))
    Cert.GdnGatesRefIdeal.Gen.reduceWindows_S128x64x32_S128x64x32_w1s1p0_0_w64s1p63_0_w1s1p0_0 Cert.GdnGatesRefIdeal.Gen.h_S_) Cert.GdnGatesRefIdeal.Gen.shapeCasts_S128x64x32_S8192x32

theorem cast_at (X : FVec Ideal Cert.GdnGatesRefIdeal.S128x64x32 .f32) (b : Fin 128) (s : Fin 64) (n : Fin 32) :
    shapeCast Cert.GdnGatesRefIdeal.S8192x32 X Cert.GdnGatesRefIdeal.Gen.shapeCasts_S128x64x32_S8192x32 (ix2 (⟨b.val * 64 + s.val, by omega⟩ : Fin 8192) n) = X (ix3 b s n) := by
  pointwise

theorem refG_at (b : Fin 128) (s : Fin 64) (n : Fin 32) : refG H W A D (ix2 (⟨b.val * 64 + s.val, by omega⟩ : Fin 8192) n)
    = ∑ q ∈ Finset.range (s.val + 1), decayN H W A D n (b.val * 64 + q) := by
  refine Eq.trans ?_ (Cumsum.at_index (p := 63) rfl (shapeCast Cert.GdnGatesRefIdeal.S128x64x32 (logs H W A D) Cert.GdnGatesRefIdeal.Gen.shapeCasts_S8192x32_S128x64x32)
    (broadcastInDim Cert.GdnGatesRefIdeal.S_ ![] Cert.GdnGatesRefIdeal.Gen.bcast_S_S_ (constant Cert.GdnGatesRefIdeal.S_ .f32 0x00000000#32)) (fun i => ?_)
    Cert.GdnGatesRefIdeal.Gen.reduceWindows_S128x64x32_S128x64x32_w1s1p0_0_w64s1p63_0_w1s1p0_0 Cert.GdnGatesRefIdeal.Gen.h_S_ b s n
    (fun q => decayN H W A D n (b.val * 64 + q)) fun q => ?_)
  · exact cast_at _ b s n
  · obtain rfl : i = ix0 := funext fun a => a.elim0
    pointwise
  · pointwise
    rw [decayN_eq H W A D n _ (by omega)]
    exact logs_at H W A D _ n

theorem pay2_at (h : Vec Ideal S256x4096 .bf16) (w : Vec Ideal S4096x32 .f32) (r : Fin 256) (n : Fin 32) :
    k0_pay2 (F := Ideal) h w (ix2 r n) = logistic (∑ k : Fin 4096, h (ix2 r k) * w (ix2 k n)) := by
  pointwise [k0_pay2]
  simp only [zero_sub]
  rfl

theorem pay5_at (h : Vec Ideal S256x4096 .bf16) (w : Vec Ideal S4096x32 .f32) (d a : Vec Ideal S1x32 .f32) (r : Fin 256) (n : Fin 32) :
    k0_pay5 (F := Ideal) (k0_pay3 h w d) (k0_pay4 a) (ix2 r n) = -(Ideal.exp (a (ix2 (0 : Fin 1) n))) * soft ((∑ k : Fin 4096, h (ix2 r k) * w (ix2 k n)) + d (ix2 (0 : Fin 1) n)) := by
  pointwise [k0_pay5, k0_pay3, k0_pay4]
  simp only [zero_sub]
  rfl

/-- A row's chunk, as the kernel computes it. -/
def chunkWord (r : BitVec 32) : BitVec 32 :=
  Scalar.select
    (IntOp.andi
      (IntOp.cmpi CmpIPredicate.ne
        (IntOp.subi (BitVec.setWidth 32 (IntOp.cmpi CmpIPredicate.sgt r 0#32)) (BitVec.setWidth 32 (IntOp.cmpi CmpIPredicate.slt r 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector r 64#32) 0#32))
    (IntOp.subi (IntOp.divsi ArithUnit.vector r 64#32) 1#32)
    (IntOp.divsi ArithUnit.vector r 64#32)

theorem chunkWord_eq : ∀ r : Fin 256, chunkWord (BitVec.ofNat 32 r.val) = BitVec.ofNat 32 (r.val / 64) := by
  decide +kernel

theorem pay7_at (r q : Fin 256) : k0_pay7 (ix2 r q) = BitVec.ofNat 32 (r.val / 64) := by
  refine Eq.trans ?_ (chunkWord_eq r)
  pointwise [k0_pay7]
  rfl

/-- The kernel's choice of the rows of the same chunk up to this one. -/
theorem select_chunk (r q : Fin 256) (x : EReal) :
    Scalar.select (IntOp.andi (IntOp.cmpi CmpIPredicate.sle (BitVec.ofNat 32 q.val) (BitVec.ofNat 32 r.val))
      (IntOp.cmpi CmpIPredicate.eq (BitVec.ofNat 32 (r.val / 64)) (BitVec.ofNat 32 (q.val / 64)))) x 0 = if q.val ≤ r.val ∧ r.val / 64 = q.val / 64 then x else 0 := by
  rw [WordCmp.cmpi_sle_ofNat (w := 32) (by omega) (by omega), WordCmp.cmpi_eq_ofNat (w := 32) (by omega) (by omega)]
  by_cases h : q.val ≤ r.val
  · by_cases h' : r.val / 64 = q.val / 64
    · rw [if_pos ⟨h, h'⟩, decide_eq_true h, decide_eq_true h']; rfl
    · rw [if_neg fun e => h' e.2, decide_eq_true h, decide_eq_false h']; rfl
  · rw [if_neg fun e => h e.1, decide_eq_false h]
    by_cases h' : r.val / 64 = q.val / 64
    · rw [decide_eq_true h']; rfl
    · rw [decide_eq_false h']; rfl

theorem pay1_at (x : FVec Ideal S256x32 .f32) (r : Fin 256) (n : Fin 32) : k0_pay1 (F := Ideal) x k0_pay6 k0_pay7 k0_pay8 k0_pay9 k0_pay10 k0_pay11 (ix2 r n)
    = ∑ q : Fin 256, if q.val ≤ r.val ∧ r.val / 64 = q.val / 64 then x (ix2 q n) else 0 := by
  pointwise [k0_pay1, k0_pay6, k0_pay8, k0_pay9, k0_pay10, k0_pay11]
  refine Finset.sum_congr rfl fun q _ => ?_
  rw [pay7_at]
  refine Eq.trans ?_ (select_chunk r q (x (ix2 q n)))
  rw [← chunkWord_eq q]
  rfl

/-- The kernel's first result array is the reference's. -/
theorem final5 : (dats m 0 c).arrAt 5 (cfgs 0).N = refBeta (argH m c) (argW m c) := by
  refine (dats m 0 c).arrAt_eq_of_covers 5 _ (by decide +kernel) fun t _ y => ?_
  blk_simp
  rw [after0_5]
  have ht := lt_points t
  idx_vars y
  have e := refBeta_at (argH m c) (argW m c) (⟨t.val * 256 + y0.val, by omega⟩ : Fin 8192) y1
  revert e
  generalize refBeta (argH m c) (argW m c) = R
  intro e
  refine Eq.trans ?_ ((e.symm).trans (by blk_ext [idx t]))
  frame_out
  rw [pay2_at]
  simp only [blk0, blk1]
  rfl

/-- A row of the kernel's second result block is the sum of its chunk's logarithms up to it. -/
theorem rows (t : Fin cfg0.N) (r : Fin 256) (n : Fin 32) :
    k0_pay1 (F := Ideal) (k0_pay5 (k0_pay3 (iblk m c 0 t) (iblk m c 2 t) (iblk m c 4 t)) (k0_pay4 (iblk m c 3 t))) k0_pay6 k0_pay7 k0_pay8 k0_pay9 k0_pay10 k0_pay11 (ix2 r n)
      = ∑ q ∈ Finset.range (r.val % 64 + 1), decayN (argH m c) (argW m c) (argA m c) (argD m c) n ((t.val * 4 + r.val / 64) * 64 + q) := by
  have ht := lt_points t
  rw [pay1_at]
  have s := Cumsum.sum_chunk (fun q => decayN (argH m c) (argW m c) (argA m c) (argD m c) n (t.val * 256 + q)) r
  have k : ∀ q : Fin 256, k0_pay5 (F := Ideal) (k0_pay3 (iblk m c 0 t) (iblk m c 2 t) (iblk m c 4 t)) (k0_pay4 (iblk m c 3 t)) (ix2 q n)
      = decayN (argH m c) (argW m c) (argA m c) (argD m c) n (t.val * 256 + q.val) := by
    intro q
    rw [pay5_at, decayN_eq _ _ _ _ _ _ (by omega), blk3, blk4]
    simp only [blk0, blk2]
    rfl
  simp only [k]
  refine s.trans (Finset.sum_congr rfl fun q _ => congrArg _ (by omega))

/-- The kernel's second result array is the reference's. -/
theorem final6 : (dats m 0 c).arrAt 6 (cfgs 0).N = refG (argH m c) (argW m c) (argA m c) (argD m c) := by
  refine (dats m 0 c).arrAt_eq_of_covers 6 _ (by decide +kernel) fun t _ y => ?_
  blk_simp
  rw [after0_6]
  have ht := lt_points t
  idx_vars y
  have e := refG_at (argH m c) (argW m c) (argA m c) (argD m c) (⟨t.val * 4 + y0.val / 64, by omega⟩ : Fin 128) (⟨y0.val % 64, by omega⟩ : Fin 64) y1
  simp only [show (t.val * 4 + y0.val / 64) * 64 + y0.val % 64 = t.val * 256 + y0.val by omega] at e
  revert e
  generalize refG (argH m c) (argW m c) (argA m c) (argD m c) = R
  intro e
  refine Eq.trans ?_ ((e.symm).trans (by blk_ext [idx t]))
  frame_out
  exact rows m c t y0 y1

end Cert.Proof.GdnGatesIdeal

end
-- ==== Proof.Claims.GdnGates.lean ====
/-
  The delta gates's claims: the frames of the kernel and of the reference, and the equality of their results.
-/
module

public import proofs.«01_k».proof.Proof.Gen.GdnGates.Frame
public import proofs.«01_k».proof.Proof.GdnGatesIdeal.Value
public import proofs.«01_k».proof.Defs

@[expose] public section

set_option maxRecDepth 65536

noncomputable section

namespace Cert.Proof.Claims

open Idealize.ShloMosaic Idealize.ShloMosaic.TcCoe Idealize.SL.Sem

/-- The kernel's frame. -/
theorem gdnGates_frame : Cert.quiescent_GdnGates (hGdnGates := Cert.GdnGates.Gen.facts) :=
  fun m ρ _ => Cert.GdnGates.Gen.frame m ρ

/-- The idealized kernel's frame. -/
theorem gdnGatesIdeal_frame : Cert.quiescent_GdnGatesIdeal (hGdnGatesIdeal := Cert.GdnGatesIdeal.Gen.facts) :=
  fun m ρ _ => Cert.GdnGatesIdeal.Gen.frame m ρ

/-- The idealized reference's frame. -/
theorem gdnGatesRef_frame : Cert.quiescent_GdnGatesRefIdeal (hGdnGatesRefIdeal := Cert.GdnGatesRefIdeal.Gen.facts) := fun m g _ =>
  θ_run_and (by run_from Cert.GdnGatesRefIdeal.Value.run m g)
    ((θ_run _ _ _).mono (fun r _ => Idealize.ShloMosaic.sem_eq_zero_of_no_sems (by decide) r.2) (Cert.GdnGatesRefIdeal.Value.run m g))

/-- The kernel's result is the reference's. -/
theorem gdnGates_algebraic : Cert.algebraic_GdnGatesIdeal_GdnGatesRefIdeal (hGdnGatesIdeal := Cert.GdnGatesIdeal.Gen.facts) (hGdnGatesRefIdeal := Cert.GdnGatesRefIdeal.Gen.facts) := by
  pair_intro
  · run_from Cert.GdnGatesIdeal.Value.run_blocks m g
  · run_from Cert.GdnGatesRefIdeal.Value.run m' g'
    all_goals try rw [(hagree c).2.2.2]
    all_goals try rw [(hagree c).2.2.1]
    · exact (Cert.Proof.GdnGatesIdeal.final5 m c).symm
    · exact (Cert.Proof.GdnGatesIdeal.final6 m c).symm

end Cert.Proof.Claims

end
-- ==== Proof.lean ====
/-
  The certificate's claim: every conjunct of `Cert.Claim`, from the modules under Proof/.
-/
module

public import proofs.«01_k».proof.Defs
public import proofs.«01_k».proof.Proof.Claims.Attn
public import proofs.«01_k».proof.Proof.Claims.Up
public import proofs.«01_k».proof.Proof.Claims.Down
public import proofs.«01_k».proof.Proof.Claims.Out
public import proofs.«01_k».proof.Proof.Claims.Inproj
public import proofs.«01_k».proof.Proof.Claims.Mm
public import proofs.«01_k».proof.Proof.Claims.Final
public import proofs.«01_k».proof.Proof.Claims.Norm
public import proofs.«01_k».proof.Proof.Claims.Mod
public import proofs.«01_k».proof.Proof.Claims.FoxGates
public import proofs.«01_k».proof.Proof.Claims.GdnGates

@[expose] public section

noncomputable section

namespace Cert.Proof

open Cert.Proof.Claims

/-- Everything the certificate claims. -/
theorem claim : Cert.Claim :=
  ⟨Cert.Attn.Gen.facts, Cert.AttnIdeal.Gen.facts, Cert.AttnRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Inproj.Gen.facts, Cert.InprojIdeal.Gen.facts, Cert.InprojRefIdeal.Gen.facts,
    Cert.Mm.Gen.facts, Cert.MmIdeal.Gen.facts, Cert.MmRefIdeal.Gen.facts,
    Cert.Final.Gen.facts, Cert.FinalIdeal.Gen.facts, Cert.FinalRefIdeal.Gen.facts,
    Cert.Norm.Gen.facts, Cert.NormIdeal.Gen.facts, Cert.NormRefIdeal.Gen.facts,
    Cert.Mod.Gen.facts, Cert.ModIdeal.Gen.facts, Cert.ModRefIdeal.Gen.facts,
    Cert.FoxGates.Gen.facts, Cert.FoxGatesIdeal.Gen.facts, Cert.FoxGatesRefIdeal.Gen.facts,
    Cert.GdnGates.Gen.facts, Cert.GdnGatesIdeal.Gen.facts, Cert.GdnGatesRefIdeal.Gen.facts,
    Cert.Pre_finite.Gen.facts,
    attn_frame, attnIdeal_frame, attnIdeal_frame_pre, attnRef_frame, attnRef_frame_pre,
    up_frame, upIdeal_frame, upRef_frame,
    down_frame, downIdeal_frame, downRef_frame,
    out_frame, outIdeal_frame, outRef_frame,
    inproj_frame, inprojIdeal_frame, inprojRef_frame,
    mm_frame, mmIdeal_frame, mmRef_frame,
    final_frame, finalIdeal_frame, finalRef_frame,
    norm_frame, normIdeal_frame, normRef_frame,
    mod_frame, modIdeal_frame, modRef_frame,
    foxGates_frame, foxGatesIdeal_frame, foxGatesRef_frame,
    gdnGates_frame, gdnGatesIdeal_frame, gdnGatesRef_frame,
    trivial, attn_algebraic,
    trivial, up_algebraic,
    trivial, down_algebraic,
    trivial, out_algebraic,
    trivial, inproj_algebraic,
    trivial, mm_algebraic,
    trivial, final_algebraic,
    trivial, norm_algebraic,
    trivial, mod_algebraic,
    trivial, foxGates_algebraic,
    trivial, gdnGates_algebraic⟩

end Cert.Proof

end
